-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024 : Shape := ⟨1, ![1024]⟩
abbrev S16384 : Shape := ⟨1, ![16384]⟩
abbrev S100000x128 : Shape := ⟨2, ![100000, 128]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S1024 32) (main_arg1 : IVec S1024 32) (main_arg2 : IVec S16384 32) (main_arg3 : FVec F S100000x128 .f32) (main_arg4 : FVec F S100000x128 .f32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 1 := constantI S_ 1 1#1
  let main_v2 : IVec S_ 1 := (fun x v => Host.reduce IntOp.andi x v reducesTo_S1024_S_d0 h_S_) main_v1 main_c_0
  let main_c_1 : IVec S_ 32 := constantI S_ 32 100000#32
  let main_v3 : IVec S1024 32 := broadcastInDim S1024 ![] bcast_S_S1024 main_c_1
  let main_v4 : IVec S1024 1 := cmpi .slt main_arg1 main_v3
  let main_c_2 : IVec S_ 1 := constantI S_ 1 1#1
  let main_v5 : IVec S_ 1 := (fun x v => Host.reduce IntOp.andi x v reducesTo_S1024_S_d0 h_S_) main_v4 main_c_2
  let main_v6 : IVec S_ 1 := andi main_v2 main_v5
  let main_c_3 : IVec S_ 32 := constantI S_ 32 0#32
  let main_v7 : IVec S16384 32 := broadcastInDim S16384 ![] bcast_S_S16384 main_c_3
  let main_v8 : IVec S16384 1 := cmpi .sge main_arg2 main_v7
  let main_c_4 : IVec S_ 1 := constantI S_ 1 1#1
  let main_v9 : IVec S_ 1 := (fun x v => Host.reduce IntOp.andi x v reducesTo_S16384_S_d0 h_S_) main_v8 main_c_4
  let main_v10 : IVec S_ 1 := andi main_v6 main_v9
  let main_c_5 : IVec S_ 32 := constantI S_ 32 100000#32
  let main_v11 : IVec S16384 32 := broadcastInDim S16384 ![] bcast_S_S16384 main_c_5
  let main_v12 : IVec S16384 1 := cmpi .slt main_arg2 main_v11
  let main_c_6 : IVec S_ 1 := constantI S_ 1 1#1
  let main_v13 : IVec S_ 1 := (fun x v => Host.reduce IntOp.andi x v reducesTo_S16384_S_d0 h_S_) main_v12 main_c_6
  let main_v14 : IVec S_ 1 := andi main_v10 main_v13
  main_v14
-- ==== Kernel.lean ====
abbrev S1024 : Shape := ⟨1, ![1024]⟩
abbrev S16384 : Shape := ⟨1, ![16384]⟩
abbrev S100000x128 : Shape := ⟨2, ![100000, 128]⟩
abbrev S1024x128 : Shape := ⟨2, ![1024, 128]⟩
abbrev S16384x128 : Shape := ⟨2, ![16384, 128]⟩
abbrev S32 : Shape := ⟨1, ![32]⟩
abbrev S32x128 : Shape := ⟨2, ![32, 128]⟩
abbrev S512 : Shape := ⟨1, ![512]⟩
abbrev S512x128 : Shape := ⟨2, ![512, 128]⟩
abbrev S_ : Shape := ⟨0, ![]⟩
abbrev S128x128 : Shape := ⟨2, ![128, 128]⟩
abbrev S128 : Shape := ⟨1, ![128]⟩
abbrev S1024x16384 : Shape := ⟨2, ![1024, 16384]⟩
abbrev S2048x128 : Shape := ⟨2, ![2048, 128]⟩
abbrev S1024x2048 : Shape := ⟨2, ![1024, 2048]⟩

abbrev nBuf : Table → Nat
  | .hbm => 8
  | .local .tc .vmem => 5
  | .local .scVector .vmem => 4
  | _ => 0

abbrev bufTy : (tb : Table) → Fin (nBuf tb) → BufTy
  | .hbm, ⟨0, _⟩ => ⟨S1024, .i32⟩
  | .hbm, ⟨1, _⟩ => ⟨S1024, .i32⟩
  | .hbm, ⟨2, _⟩ => ⟨S16384, .i32⟩
  | .hbm, ⟨3, _⟩ => ⟨S100000x128, .f32⟩
  | .hbm, ⟨4, _⟩ => ⟨S100000x128, .f32⟩
  | .hbm, ⟨5, _⟩ => ⟨S1024x128, .f32⟩
  | .hbm, ⟨6, _⟩ => ⟨S16384x128, .f32⟩
  | .hbm, ⟨7, _⟩ => ⟨S1024x16384, .f32⟩
  | .local .tc .vmem, ⟨0, _⟩ => ⟨S1024x128, .f32⟩
  | .local .tc .vmem, ⟨1, _⟩ => ⟨S2048x128, .f32⟩
  | .local .tc .vmem, ⟨2, _⟩ => ⟨S2048x128, .f32⟩
  | .local .tc .vmem, ⟨3, _⟩ => ⟨S1024x2048, .f32⟩
  | .local .tc .vmem, ⟨4, _⟩ => ⟨S1024x2048, .f32⟩
  | .local .scVector .vmem, ⟨0, _⟩ => ⟨S32, .i32⟩
  | .local .scVector .vmem, ⟨1, _⟩ => ⟨S32x128, .f32⟩
  | .local .scVector .vmem, ⟨2, _⟩ => ⟨S512, .i32⟩
  | .local .scVector .vmem, ⟨3, _⟩ => ⟨S512x128, .f32⟩
  | _, _ => ⟨S1024, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_v0_0_scv : Ref sig .scVector := ⟨.hbm, 5, rfl⟩
abbrev main_v0_1_scv : Ref sig .scVector := ⟨.hbm, 6, rfl⟩
abbrev cc1_stg0_0 : Ref sig .tc := ⟨.vmem, 0, rfl⟩
abbrev cc1_stg1_0 : Ref sig .tc := ⟨.vmem, 1, rfl⟩
abbrev cc1_stg1_1 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_40_r1 : BitVec 32 := 0#32
  ![v2.toNat, 0]
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v5 : BitVec 32 := Scalar.muli v1 c512_i32
  ![v5.toNat]
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v5 : BitVec 32 := Scalar.muli v1 c512_i32
  let c0_i32_40_r3 : BitVec 32 := 0#32
  ![v5.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024 : Shape := ⟨1, ![1024]⟩
abbrev S16384 : Shape := ⟨1, ![16384]⟩
abbrev S100000x128 : Shape := ⟨2, ![100000, 128]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x128 : Shape := ⟨2, ![1024, 128]⟩
abbrev S16384x1 : Shape := ⟨2, ![16384, 1]⟩
abbrev S16384x128 : Shape := ⟨2, ![16384, 128]⟩
abbrev S128x16384 : Shape := ⟨2, ![128, 16384]⟩
abbrev S1024x16384 : Shape := ⟨2, ![1024, 16384]⟩

abbrev nBuf : Space → Nat
  | .hbm => 53
  | .vmem => 0
  | .smem => 0
  | _ => 0

abbrev bufTy : (tb : Table) → Fin (tcTables nBuf tb) → BufTy
  | .hbm, ⟨0, _⟩ => ⟨S1024, .i32⟩
  | .hbm, ⟨1, _⟩ => ⟨S1024, .i32⟩
  | .hbm, ⟨2, _⟩ => ⟨S16384, .i32⟩
  | .hbm, ⟨3, _⟩ => ⟨S100000x128, .f32⟩
  | .hbm, ⟨4, _⟩ => ⟨S100000x128, .f32⟩
  | .hbm, ⟨5, _⟩ => ⟨S_, .i32⟩
  | .hbm, ⟨6, _⟩ => ⟨S1024, .i32⟩
  | .hbm, ⟨7, _⟩ => ⟨S1024, .i1⟩
  | .hbm, ⟨8, _⟩ => ⟨S_, .i32⟩
  | .hbm, ⟨9, _⟩ => ⟨S1024, .i32⟩
  | .hbm, ⟨10, _⟩ => ⟨S1024, .i32⟩
  | .hbm, ⟨11, _⟩ => ⟨S1024, .i32⟩
  | .hbm, ⟨12, _⟩ => ⟨S1024x1, .i32⟩
  | .hbm, ⟨13, _⟩ => ⟨S1, .i32⟩
  | .hbm, ⟨14, _⟩ => ⟨S_, .i32⟩
  | .hbm, ⟨15, _⟩ => ⟨S1024x1, .i32⟩
  | .hbm, ⟨16, _⟩ => ⟨S1024x1, .i1⟩
  | .hbm, ⟨17, _⟩ => ⟨S1x1, .i32⟩
  | .hbm, ⟨18, _⟩ => ⟨S1024x1, .i32⟩
  | .hbm, ⟨19, _⟩ => ⟨S1024x1, .i1⟩
  | .hbm, ⟨20, _⟩ => ⟨S1024x1, .i1⟩
  | .hbm, ⟨21, _⟩ => ⟨S_, .i1⟩
  | .hbm, ⟨22, _⟩ => ⟨S1024, .i1⟩
  | .hbm, ⟨23, _⟩ => ⟨S1024x128, .f32⟩
  | .hbm, ⟨24, _⟩ => ⟨S1024x128, .i1⟩
  | .hbm, ⟨25, _⟩ => ⟨S_, .f32⟩
  | .hbm, ⟨26, _⟩ => ⟨S1024x128, .f32⟩
  | .hbm, ⟨27, _⟩ => ⟨S1024x128, .f32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S1, .i32⟩
  | .hbm, ⟨37, _⟩ => ⟨S_, .i32⟩
  | .hbm, ⟨38, _⟩ => ⟨S16384x1, .i32⟩
  | .hbm, ⟨39, _⟩ => ⟨S16384x1, .i1⟩
  | .hbm, ⟨40, _⟩ => ⟨S1x1, .i32⟩
  | .hbm, ⟨41, _⟩ => ⟨S16384x1, .i32⟩
  | .hbm, ⟨42, _⟩ => ⟨S16384x1, .i1⟩
  | .hbm, ⟨43, _⟩ => ⟨S16384x1, .i1⟩
  | .hbm, ⟨44, _⟩ => ⟨S_, .i1⟩
  | .hbm, ⟨45, _⟩ => ⟨S16384, .i1⟩
  | .hbm, ⟨46, _⟩ => ⟨S16384x128, .f32⟩
  | .hbm, ⟨47, _⟩ => ⟨S16384x128, .i1⟩
  | .hbm, ⟨48, _⟩ => ⟨S_, .f32⟩
  | .hbm, ⟨49, _⟩ => ⟨S16384x128, .f32⟩
  | .hbm, ⟨50, _⟩ => ⟨S16384x128, .f32⟩
  | .hbm, ⟨51, _⟩ => ⟨S128x16384, .f32⟩
  | .hbm, ⟨52, _⟩ => ⟨S1024x16384, .f32⟩
  | _, _ => ⟨S1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_v2 : Ref sig .tc := ⟨.hbm, 51, rfl⟩
abbrev main_v3 : Ref sig .tc := ⟨.hbm, 52, rfl⟩

abbrev nD : Nat := 1
abbrev τ : Topo := Topo.v7x

variable {F : FTy → Type} [FloatOps F]
-- ==== Proof.Streams.lean ====
/-
  Several indirect gathers outstanding on one DMA semaphore.

  A tile starts several indirect gathers (each one a stream of rows named by an index list) on a single semaphore before
  it waits for any, and then waits once per gather. A wait that is not the last says nothing about which rows have
  arrived, as instalments of different gathers add up on the one counter; after the last wait every row of every gather
  has arrived. The counted batch of transfers of equal size expresses this: the batch's transfers here are the single
  ROWS of all the gathers. `wp_indirectGatherBatch` is the issue of one gather into such a batch, taking as many of the
  batch's next places as the gather has rows; `rowDelivery` is what one row delivers, and `rowDelivery_join` puts
  a gather's rows together again.
-/
module

public import Idealize.ShloMosaic.Lib.Batch
public import Idealize.ShloMosaic.Lib.SparseCore.Stream

@[expose] public section

noncomputable section

namespace Cert.Proof.Streams

open Idealize.ShloMosaic Idealize.ShloMosaic.SparseCore
open Idealize.SL
open Idealize.SL.BI (sProp Storable bigSep bigSep_insert)
open scoped Idealize.SL.BI
open Idealize.SL.BI.BIBase Idealize.SL.BI.Laws Idealize.SL.Sem Idealize.SL.ProofMode
open Idealize.SL.RA

section Pending

variable {M : Type} [URA M] {n : ℕ}

/-- Two orders of the same three resources. -/
theorem sep_turn (A B C : sProp M) : (iprop(A ∗ B ∗ C) : sProp M) = iprop((B ∗ A) ∗ C) := by
  have h₁ : (iprop(A ∗ B ∗ C) : sProp M) ⊢ iprop((B ∗ A) ∗ C) := by
    iintro ⟨HA, HB, HC⟩
    isplitl [HA HB]
    · isplitl [HB]
      · iexact HB
      · iexact HA
    · iexact HC
  have h₂ : (iprop((B ∗ A) ∗ C) : sProp M) ⊢ iprop(A ∗ B ∗ C) := by
    iintro ⟨⟨HB, HA⟩, HC⟩
    isplitl [HA]
    · iexact HA
    isplitl [HB]
    · iexact HB
    · iexact HC
  exact BI.Entails.antisymm h₁ h₂

/-- Nothing beside a resource is that resource. -/
theorem emp_sep_eq (A : sProp M) : (iprop(emp ∗ A) : sProp M) = A := by
  have h₁ : (iprop(emp ∗ A) : sProp M) ⊢ A := emp_sep.1
  have h₂ : A ⊢ (iprop(emp ∗ A) : sProp M) := emp_sep.2
  exact BI.Entails.antisymm h₁ h₂

/-- The places of a batch from `j` on are the next `o` places and those from `j + o` on. -/
theorem pending_take (Φ : Fin n → sProp M) (j : ℕ) :
    ∀ (o : ℕ) (h : j + o ≤ n),
      bigSep (Transfers.pending j) Φ
        = iprop(bigSep Finset.univ (fun k : Fin o => Φ ⟨j + k.val, by omega⟩) ∗ bigSep (Transfers.pending (j + o)) Φ)
  | 0, h => by
    rw [Finset.univ_eq_empty, BI.bigSep_empty]
    exact (emp_sep_eq _).symm
  | o + 1, h => by
    have hk : j + o < n := by omega
    rw [pending_take Φ j o (by omega), Transfers.pending_succ hk, bigSep_insert (Transfers.not_mem_pending_succ hk),
      Fin.univ_castSuccEmb, Finset.cons_eq_insert, bigSep_insert (by simp), BI.bigSep_map]
    exact sep_turn _ _ _

end Pending

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

omit [Preorder Lvl] [DecidableEq Name] in
/-- A shape with elements has a row along every axis. -/
theorem rows_pos (hs : 0 < s.numel) (b : Fin s.rank) : 0 < s.size b := Shape.size_pos_of_numel_pos hs _

/-- The list index that names row `k` of the gather: the `k`-th in row-major order. -/
def listIdx {o : ℕ} (hn : si.numel = o) (k : Fin o) : si.Idx := si.rowMajor.symm (k.cast hn.symm)

omit [DecidableEq Ix] [DecidableEq Name] [URA U] [Preorder Lvl] in
/-- Every list index names exactly one row. -/
theorem listIdx_bijective {o : ℕ} (hn : si.numel = o) : Function.Bijective (listIdx (si := si) hn) :=
  si.rowMajor.symm.bijective.comp (finCongr hn.symm).bijective

/-- What row `k` of a gather delivers: its row of the destination, written with the row of the source that entry `k` of
    the list names; the list's entry; and a piece of the source's share. -/
def rowDelivery (src : Memref sig c.2.kind sp s₀ e) (dst : Memref sig c.2.kind .vmem s e) (hg : s₀.Gathers a s)
    (offs : Memref sig c.2.kind .vmem si .i32) (hn : si.numel = s.size hg.axis') (hs : 0 < s.numel)
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (k : Fin (s.size hg.axis')) : sProp 𝕄 :=
  iprop(((dst.view.loc c ↦[(dst.view.slice (s.rowRect hg.axis' k)).set]{fullShare}
            ((dst.view.slice (s.rowRect hg.axis' k)).write (Elt F) fd
              (fun i => src.view.read (Elt F) fs (hg.rowIdx (rows (offs.view.read (Elt F) fo) hn hin k) i)) Finset.univ))
        ∗ (offs.view.loc c ↦[{offs.view.emb (listIdx hn k)}]{qo} fo))
      ∗ (src.view.loc c ↦[src.view.set]{pieceOf q _ (rows_pos hs _) k} fs))

instance rowDelivery_storable (src : Memref sig c.2.kind sp s₀ e) (dst : Memref sig c.2.kind .vmem s e) (hg : s₀.Gathers a s)
    (offs : Memref sig c.2.kind .vmem si .i32) (hn : si.numel = s.size hg.axis') (hs : 0 < s.numel)
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (k : Fin (s.size hg.axis')) :
    Storable (upEmb : UEmb _ 𝕄) (rowDelivery (Ix := Ix) (Name := Name) (U := U) (Lvl := Lvl) c src dst hg offs hn hs q qo fs fd fo hin k) := by
  unfold rowDelivery; infer_instance

omit [Preorder Lvl] in
/-- A gather's rows, all delivered, are the destination written with the gather's payload, and the source's and the
    list's shares whole again. -/
theorem rowDelivery_join {src : Memref sig c.2.kind sp s₀ e} {dst : Memref sig c.2.kind .vmem s e} {hg : s₀.Gathers a s}
    {offs : Memref sig c.2.kind .vmem si .i32} {hn : si.numel = s.size hg.axis'} {hs : 0 < s.numel}
    {q qo : PosShare TreeShare} {fs : Buf (Elt F) (src.view.loc c)} {fd : Buf (Elt F) (dst.view.loc c)} {fo : Buf (Elt F) (offs.view.loc c)}
    {hin : ∀ x, (offs.view.read (Elt F) fo x).toNat < s₀.size hg.axis} :
    bigSep Finset.univ (rowDelivery (Ix := Ix) (Name := Name) (U := U) (Lvl := Lvl) c src dst hg offs hn hs q qo fs fd fo hin)
      ⊢ (iprop((dst.view.loc c ↦[dst.view.set]{fullShare}
                (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) : sProp 𝕄) := by
  have hW : ∀ (j : Fin (s.size hg.axis')) i, src.view.read (Elt F) fs (hg.rowIdx (rows (offs.view.read (Elt F) fo) hn hin j) i)
      = gatherPayload hg (src.view.read (Elt F) fs) (rows (offs.view.read (Elt F) fo) hn hin) ((s.rowRect hg.axis' j).emb i) := fun j i => by
    unfold gatherPayload; rw [Shape.Gathers.idx_rowRect_emb]
  unfold rowDelivery
  iintro HD
  ihave H1 := Transfers.bigSep_sep_out _ _ _ $$ HD
  icases H1 with ⟨H2, Hsrc⟩
  ihave H3 := Transfers.bigSep_sep_out _ _ _ $$ H2
  icases H3 with ⟨Hrows, Hoffs⟩
  isplitl [Hrows]
  · have h4 := pointsTo_rows_write (Ix := Ix) (Name := Name) (U := U) (Lvl := Lvl) c dst.view hg.axis' fd
      (fun j i => src.view.read (Elt F) fs (hg.rowIdx (rows (offs.view.read (Elt F) fo) hn hin j) i)) _ hW
    refine BI.Entails.trans ?_ h4
    exact BI.Entails.refl _
  isplitl [Hsrc]; · iapply (Entails.of_eq (pointsTo_piecesOf (src.view.set) fs (rows_pos hs _) q).symm) $$ Hsrc
  iapply (Entails.of_eq (pointsTo_entries c offs.view (listIdx hn) (listIdx_bijective hn) qo fo).symm) $$ Hoffs

/-- One gather issued into a batch whose transfers are ROWS of `N` units: holding a share of the source's elements, the
    destination outright, a share of the list whose words are all in range, and the batch with `j` rows issued, whose
    next places each row's delivery entails, the tile continues holding the batch with the gather's rows issued too. -/
theorem wp_indirectGatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {n : ℕ} {D : Fin n → sProp 𝕄} {j u : ℕ}
    (ι : Ix) (N : ℕ) (hN : ∀ i, (dst.slice (s.rowRect hg.axis' i) (s.stride_rowRect hg.axis' i)).view.dmaCredit = N)
    (hs : 0 < s.numel) (hin : ∀ x, (offs.view.read (Elt F) fo x).toNat < s₀.size hg.axis)
    (hj : j + s.size hg.axis' ≤ n) (hu : u ≤ j * N)
    (hD : ∀ i : Fin (s.size hg.axis'), rowDelivery c src dst hg offs hn hs q qo fs fd fo hin i ⊢ D ⟨j + i.val, by omega⟩) :
    iprop((src.view.loc c ↦[src.view.set]{q} fs) ∗ (dst.view.loc c ↦[dst.view.set]{fullShare} fd)
        ∗ (offs.view.loc c ↦[offs.view.set]{qo} fo) ∗ Transfers.Batch EC c (.dma sem) ι N D j u)
      ⊢ iprop((Transfers.Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  have ho : 0 < s.size hg.axis' := rows_pos hs _
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  let qk : Fin (s.size hg.axis') → PosShare TreeShare := pieceOf q _ ho
  let w : (j : Fin (s.size hg.axis')) → (s.rowShape hg.axis').Idx → Elt F e := fun j i => src.view.read (Elt F) fs (hg.rowIdx (r j) i)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hsum : ∑ i, (dst.slice (s.rowRect hg.axis' i) (s.stride_rowRect hg.axis' i)).view.dmaCredit = s.size hg.axis' * N :=
    sum_rowCredit_eq _ hN rfl
  unfold Transfers.Batch
  iintro ⟨Hs, Hd, Ho, ⟨%γ, %γ₀, %κ, #Hinv, HI, H0, Hcred⟩⟩ Hk
  ihave HI' := (Entails.of_eq (pending_take (fun t => count EC (γ t) 0) j (s.size hg.axis') hj)) $$ HI
  icases HI' with ⟨Hγ, HI⟩
  ihave Hd' := (Entails.of_eq (pointsTo_rows c dst.view hg.axis' fullShare fd)) $$ Hd
  ihave Ho' := (Entails.of_eq (pointsTo_entries c offs.view (listIdx hn) (listIdx_bijective hn) qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd' Ho' Hs' Hγ]
  · have hrow : ∀ i, iprop(inv κ (Transfers.batchBody EC (c, SemLoc.dma sem) N D γ γ₀)
          ∗ ((((dst.view.loc c ↦[(dst.view.slice (s.rowRect hg.axis' i)).set]{fullShare} fd) ∗ S.heldEntry qo fo i)
          ∗ (src.view.loc c ↦[src.view.set]{qk i} fs)) ∗ count EC (γ ⟨j + i.val, by omega⟩) 0))
        ⊢ iprop(S.heldEntry qo fo i ∗ (S.heldEntry qo fo i -∗ rowRes c (rd i))) := fun i => by
      iintro ⟨#Hinv, ⟨⟨Hr, He⟩, Hsq⟩, Hγj⟩
      isplitl [He]; · iexact He
      iintro He
      unfold rowRes
      iexists qk i, fs, iprop((dst.view.loc c ↦[(dst.view.slice (s.rowRect hg.axis' i)).set]{fullShare} ((dst.view.slice (s.rowRect hg.axis' i)).write (Elt F) fd (w i) Finset.univ)) ∗ S.heldEntry qo fo i)
      isplitl [Hsq]; · iexact Hsq
      isplitl [Hr He]
      · iapply writeUpdate_frame
        isplitl [Hr]
        · iapply (pointsTo_writeUpdate c (v := dst.view.slice (s.rowRect hg.axis' i)) subset_rfl) $$ Hr
        · iexact He
      · have hcr := Transfers.batch_creditUpdate EC (g := (c, SemLoc.dma sem)) (N := N) (γ := γ) (γ₀ := γ₀) (ι := κ) (D := D) ⟨j + i.val, by omega⟩ (hD i)
        rw [← hN i] at hcr
        iapply hcr
        isplitr
        · rw [hN i]; iexact Hinv
        iexact Hγj
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun i _ => hrow i)
    isplitr; · iexact Hinv
    iexact H3
  · iintro Hcred'
    iapply Hk
    iexists γ, γ₀, κ
    isplitr; · iexact Hinv
    isplitl [HI]; · iexact HI
    isplitl [H0]; · iexact H0
    rw [show (j + s.size hg.axis') * N - u = (j * N - u) + s.size hg.axis' * N by rw [Nat.add_mul]; omega, ← tallyAt_add]
    icombine Hcred Hcred' as H
    iexact H

end Cert.Proof.Streams

end
-- ==== Proof.Gathered.lean ====
/-
  What a gather of rows leaves, index by index, and small facts used on the way.

  `gatherPayload_apply` reads a gathered array at an index: the element of the table at the row the list names. `rowAt`
  is a row number read from a word (total: reduced modulo the number of rows). `pointsTo_write` restates a written window
  by the contents of a whole array it agrees with. `quarter` is a family of 512 resources given as four families of 128.
-/
module

public import proofs.«01_k».proof.Proof.Streams
public import Idealize.ShloMosaic.Lib.ValueIdx
public import Idealize.ShloMosaic.Lib.Writes

@[expose] public section

noncomputable section

namespace Cert.Proof.Streams

open Idealize.ShloMosaic Idealize.ShloMosaic.SparseCore Idealize.ShloMosaic.ValueIdx
open Idealize.SL
open Idealize.SL.BI (sProp Storable bigSep bigSep_insert)
open scoped Idealize.SL.BI
open Idealize.SL.BI.BIBase Idealize.SL.BI.Laws Idealize.SL.Sem Idealize.SL.ProofMode
open Idealize.SL.RA

section Values

variable {F : FTy → Type}

/-- The row of a table of 100000 rows that a word names: its value, reduced modulo the number of rows. -/
def rowAt (v : BitVec 32) : Fin 100000 := ⟨v.toNat % 100000, Nat.mod_lt _ (by decide)⟩

/-- Of a word below the number of rows, the row is its value. -/
theorem rowAt_val {v : BitVec 32} (h : v.toNat < 100000) : (rowAt v).val = v.toNat := Nat.mod_eq_of_lt h

/-- Position `k` of a list is entry `k`. -/
theorem rowMajor_symm_one {n : ℕ} (k : Fin (⟨1, ![n]⟩ : Shape).numel) (h : k.val < n) :
    (⟨1, ![n]⟩ : Shape).rowMajor.symm k = ix1 ⟨k.val, h⟩ := by
  rw [Equiv.symm_apply_eq]
  apply Fin.ext
  exact (Shape.rowMajor_val_one (ix1 ⟨k.val, h⟩)).symm

/-- A gather of rows of 128 elements, read at `(r, c)`: the table at column `c` of the row entry `r` of the list names. -/
theorem gatherPayload_apply {o : ℕ} {e : EltTy} (hg : (⟨2, ![100000, 128]⟩ : Shape).Gathers 0 ⟨2, ![o, 128]⟩)
    (g : (⟨2, ![100000, 128]⟩ : Shape).Idx → Elt F e) (l : (⟨1, ![o]⟩ : Shape).Idx → Elt F .i32)
    (hn : (⟨1, ![o]⟩ : Shape).numel = (⟨2, ![o, 128]⟩ : Shape).size hg.axis')
    (h : ∀ x, (l x).toNat < (⟨2, ![100000, 128]⟩ : Shape).size hg.axis) (x : (⟨2, ![o, 128]⟩ : Shape).Idx) :
    gatherPayload hg g (rows l hn h) x = g (ix2 (rowAt (l (ix1 (x 0)))) (x 1)) := by
  unfold gatherPayload
  congr 1
  funext b
  match b with
  | ⟨0, hb⟩ =>
    have h1 := Shape.Gathers.idx_axis hg (rows l hn h) x
    refine h1.trans (Fin.ext ?_)
    have h3 : (⟨1, ![o]⟩ : Shape).rowMajor.symm (Fin.cast hn.symm (x hg.axis')) = ix1 (x 0) :=
      rowMajor_symm_one _ (x 0).isLt
    have h4 : (l ((⟨1, ![o]⟩ : Shape).rowMajor.symm (Fin.cast hn.symm (x hg.axis')))).toNat < 100000 := h _
    refine (rowAt_val h4).symm.trans ?_
    exact congrArg (fun y => (rowAt (l y)).val) h3
  | ⟨1, hb⟩ =>
    apply Fin.ext
    exact Shape.Gathers.idx_of_ne hg (rows l hn h) x ⟨1, hb⟩ Nat.one_ne_zero

end Values

section Resources

variable {nD : Nat} {τ : Topo} {sig : RefSig} {Ix : Type} [DecidableEq Ix] {Val : EltTy → Type} {Name : Type} [DecidableEq Name]
variable {U : Type} [URA U] {Lvl : Type}

/-- A window just written with the values a whole array `g` has there is held at `g`. -/
theorem pointsTo_write {sp : Space} {s : Shape} {e : EltTy} (c : Thread nD τ) (v : View sig c.2.kind sp s e)
    (q : PosShare TreeShare) (f g : Buf Val (v.loc c)) (w : s.Idx → Val e) (h : w = v.read Val g) :
    (v.loc c ↦[v.set]{q} v.write Val f w Finset.univ : sProp (MT nD τ sig Ix Val Name U Lvl)) = v.loc c ↦[v.set]{q} g := by
  subst h
  refine pointsTo_congr fun i hi => ?_
  obtain ⟨x, -, rfl⟩ := Finset.mem_map.mp hi
  rw [View.write_emb_of_mem _ _ (Finset.mem_univ x), View.read_apply, cast_cast, cast_eq]

/-- The same for a whole-window write in the executor's form. -/
theorem pointsTo_writes {sp : Space} {s : Shape} {e : EltTy} (c : Thread nD τ) (v : View sig c.2.kind sp s e)
    (q : PosShare TreeShare) (f g : Buf Val (v.loc c)) (w : s.Idx → Val e) (h : w = v.read Val g) :
    (v.loc c ↦[v.set]{q} v.writes Val f [⟨Rect.whole s, w⟩] : sProp (MT nD τ sig Ix Val Name U Lvl)) = v.loc c ↦[v.set]{q} g := by
  subst h
  refine pointsTo_congr fun i hi => ?_
  obtain ⟨x, -, rfl⟩ := Finset.mem_map.mp hi
  have hx : (v.slice (Rect.whole s)).emb x = v.emb x :=
    congrArg v.emb (funext fun a => Fin.ext (by show 0 + 1 * (x a).val = (x a).val; omega))
  rw [View.writes_singleton, ← hx, View.write_emb_of_mem _ _ (Finset.mem_univ x), hx, View.read_apply]
  exact (cast_cast _ _ _).trans (cast_eq _ _)

end Resources

section Quarter

variable {M : Type} [URA M]

/-- Four families of 128 resources as one family of 512: place `128 g + k` is place `k` of family `g`. -/
def quarter (D : Fin 4 → Fin 128 → sProp M) (t : Fin 512) : sProp M := D ⟨t.val / 128, by omega⟩ ⟨t.val % 128, by omega⟩

/-- Place `128 g + k` of the family of 512. -/
theorem quarter_at (D : Fin 4 → Fin 128 → sProp M) (g : Fin 4) (k : Fin 128) (j : ℕ) (hj : j = 128 * g.val) (h : j + k.val < 512) :
    quarter D ⟨j + k.val, h⟩ = D g k := by
  subst hj
  have h1 : (⟨(128 * g.val + k.val) / 128, by omega⟩ : Fin 4) = g := Fin.ext (by show (128 * g.val + k.val) / 128 = g.val; omega)
  have h2 : (⟨(128 * g.val + k.val) % 128, by omega⟩ : Fin 128) = k := Fin.ext (by show (128 * g.val + k.val) % 128 = k.val; omega)
  show D ⟨(128 * g.val + k.val) / 128, _⟩ ⟨(128 * g.val + k.val) % 128, _⟩ = D g k
  rw [h1, h2]

/-- All 512 together are the four families. -/
theorem bigSep_quarter (D : Fin 4 → Fin 128 → sProp M) :
    bigSep Finset.univ (quarter D) = bigSep Finset.univ fun g : Fin 4 => bigSep Finset.univ (D g) := by
  rw [BI.bigSep_univ_equiv (finProdFinEquiv (m := 4) (n := 128)) (quarter D), BI.bigSep_univ_prod]
  refine BI.bigSep_congr fun g _ => BI.bigSep_congr fun k _ => ?_
  have := quarter_at D g k _ rfl (by omega)
  rw [← this]
  congr 1
  apply Fin.ext
  simp [finProdFinEquiv]; omega

/-- Four resources. -/
theorem bigSep_four (Φ : Fin 4 → sProp M) : bigSep Finset.univ Φ = iprop(Φ 0 ∗ Φ 1 ∗ Φ 2 ∗ Φ 3) := by
  rw [show (Finset.univ : Finset (Fin 4)) = {0, 1, 2, 3} from by decide, BI.bigSep_insert (by decide), BI.bigSep_insert (by decide),
    BI.bigSep_insert (by decide), BI.bigSep_singleton]
  rfl

end Quarter

end Cert.Proof.Streams
-- ==== Proof.KernelIdealTile.lean ====
/-
  The SparseCore kernel's task on one vector subcore, with the values it leaves.

  Thirty-two tasks (two SparseCores, sixteen vector subcores each); task `w = 2·subcore + SparseCore` copies 32 entries of
  `query` into its memory, gathers the 32 rows of `user_table` they name and copies those out to rows `32 w …` of the
  first result; then copies 512 entries of `item`, gathers the 512 rows of `item_table` they name — four gathers of 128
  rows, all started before the first is waited for — and copies those out to rows `512 w …` of the second result. Each
  task holds its own part of the two lists and of the two results, and a 32nd share of each table. `uVal` and `iVal` are
  the two gathered arrays; a task leaves its part of each (`tile_body`).
-/
module

public import proofs.«01_k».proof.Defs
public import proofs.«01_k».proof.Proof.Gathered
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.StableHlo.Run
public import Idealize.ShloMosaic.Lib.Pipeline.Kit
public import Idealize.ShloMosaic.Lib.Tactic

@[expose] public section

noncomputable section

namespace Cert.Proof.KernelIdealRun

open Cert.KernelIdeal Cert.KernelIdeal.Gen
open Cert.Proof.Streams

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the program's calls. -/
abbrev ΛP : Labels := Pipeline.Sig Λ₀ (Fin 1) fun p => (pcfgs (F := F) p).Adm
/-- The SparseCore calls. -/
abbrev K : SparseCore.Cfg τ sig (ΛP (F := F)) 1 := sc (F := F)
/-- The bodies of the labels. -/
abbrev D [FloatOps F] : Defs nD τ sig (Elt F) (ΛP (F := F)) := Pipeline.defs pcfgs defs₀
/-- No loop of the kernels needs a variant. -/
abbrev 𝒱₀ : Variants := Variants.none
/-- The variants of the extended program. -/
abbrev 𝒱 : Variants := 𝒱₀.lift
/-- The variant the calls run under. -/
abbrev v₀ : 𝒱.V := Sum.inl none

/-! ## The resource algebra: the handshakes' rounds, the pipeline's rounds, the transfers' counters -/

/-- The rounds of the launch's handshakes. -/
abbrev UH : Type := URounds (GSem nD τ sig) ℕ
/-- The rounds of the TensorCore pipeline's staging buffers. -/
abbrev UP : Type := URounds (GSem nD τ sig) Unit
/-- All of it. -/
abbrev UU : Type := UH × (UP × Counters)

local notation "𝕄" => MT nD τ sig (HIx 1) (Elt F) ℕ UU ℕ

/-- Where the handshakes' rounds stand. -/
abbrev EH : Emb UH (MT nD τ sig (HIx 1) (Elt F) ℕ UU ℕ) := embL

/-! ## The launch memory and the buffers -/

variable (m : (ℓ : Loc nD τ sig) → Buf (Elt F) ℓ)

abbrev qLoc (d : Dev nD) : Loc nD τ sig := (SparseCore.T d).loc main_arg1
abbrev iLoc (d : Dev nD) : Loc nD τ sig := (SparseCore.T d).loc main_arg2
abbrev utLoc (d : Dev nD) : Loc nD τ sig := (SparseCore.T d).loc main_arg3
abbrev itLoc (d : Dev nD) : Loc nD τ sig := (SparseCore.T d).loc main_arg4
abbrev uoLoc (d : Dev nD) : Loc nD τ sig := (SparseCore.T d).loc main_v0_0
abbrev ioLoc (d : Dev nD) : Loc nD τ sig := (SparseCore.T d).loc main_v0_1

local notation "qV" => (Memref.whole Cert.KernelIdeal.main_arg1_scv : Memref Cert.KernelIdeal.sig Kind.scVector Space.hbm Cert.KernelIdeal.S1024 EltTy.i32)
local notation "iV" => (Memref.whole Cert.KernelIdeal.main_arg2_scv : Memref Cert.KernelIdeal.sig Kind.scVector Space.hbm Cert.KernelIdeal.S16384 EltTy.i32)
local notation "utV" => (Memref.whole Cert.KernelIdeal.main_arg3_scv : Memref Cert.KernelIdeal.sig Kind.scVector Space.hbm Cert.KernelIdeal.S100000x128 EltTy.f32)
local notation "itV" => (Memref.whole Cert.KernelIdeal.main_arg4_scv : Memref Cert.KernelIdeal.sig Kind.scVector Space.hbm Cert.KernelIdeal.S100000x128 EltTy.f32)
local notation "uoV" => (Memref.whole Cert.KernelIdeal.main_v0_0_scv : Memref Cert.KernelIdeal.sig Kind.scVector Space.hbm Cert.KernelIdeal.S1024x128 EltTy.f32)
local notation "ioV" => (Memref.whole Cert.KernelIdeal.main_v0_1_scv : Memref Cert.KernelIdeal.sig Kind.scVector Space.hbm Cert.KernelIdeal.S16384x128 EltTy.f32)
local notation "s0V" => (Memref.whole Cert.KernelIdeal.cc0_scratch0 : Memref Cert.KernelIdeal.sig Kind.scVector Space.vmem Cert.KernelIdeal.S32 EltTy.i32)
local notation "s1V" => (Memref.whole Cert.KernelIdeal.cc0_scratch1 : Memref Cert.KernelIdeal.sig Kind.scVector Space.vmem Cert.KernelIdeal.S32x128 EltTy.f32)
local notation "s2V" => (Memref.whole Cert.KernelIdeal.cc0_scratch2 : Memref Cert.KernelIdeal.sig Kind.scVector Space.vmem Cert.KernelIdeal.S512 EltTy.i32)
local notation "s3V" => (Memref.whole Cert.KernelIdeal.cc0_scratch3 : Memref Cert.KernelIdeal.sig Kind.scVector Space.vmem Cert.KernelIdeal.S512x128 EltTy.f32)

/-! ## The values -/

/-- The rows of `user_table` that `query` names. -/
def uVal (d : Dev nD) : Buf (Elt F) (uoLoc d) := fun (x : S1024x128.Idx) =>
  m (utLoc d) (ix2 (rowAt (m (qLoc d) (ix1 (x 0)))) (x 1))

/-- The rows of `item_table` that `item` names. -/
def iVal (d : Dev nD) : Buf (Elt F) (ioLoc d) := fun (x : S16384x128.Idx) =>
  m (itLoc d) (ix2 (rowAt (m (iLoc d) (ix1 (x 0)))) (x 1))

/-- What the proof asks of the launch memory: every entry of the two lists is a row of its table. -/
def PreOK : Prop :=
  (∀ (d : Dev nD) (j : S1024.Idx), (m (qLoc d) j).toNat < 100000) ∧ ∀ (d : Dev nD) (j : S16384.Idx), (m (iLoc d) j).toNat < 100000

/-! ## The parts of the arrays -/

theorem qdiv : 32 ∣ S1024.size 0 := ⟨32, rfl⟩
theorem idiv : 32 ∣ S16384.size 0 := ⟨512, rfl⟩
theorem uodiv : 32 ∣ S1024x128.size 0 := ⟨32, rfl⟩
theorem iodiv : 32 ∣ S16384x128.size 0 := ⟨512, rfl⟩
/-- Task `w`'s part of `query`, of `item`, of the first result, of the second. -/
abbrev qSet (w : Fin 32) : Finset S1024.Idx := (Rect.part (s := S1024) (a₀ := 0) qdiv w).set
abbrev iSet (w : Fin 32) : Finset S16384.Idx := (Rect.part (s := S16384) (a₀ := 0) idiv w).set
abbrev uoSet (w : Fin 32) : Finset S1024x128.Idx := (Rect.part (s := S1024x128) (a₀ := 0) uodiv w).set
abbrev ioSet (w : Fin 32) : Finset S16384x128.Idx := (Rect.part (s := S16384x128) (a₀ := 0) iodiv w).set
/-- Task `w`'s share of a table. -/
abbrev tq (w : Fin 32) : PosShare TreeShare := pieceOf fullShare 32 (by decide) w

/-- What a task holds of the device's arrays: its parts of the two lists, its shares of the two tables, its parts of the
    two results, at contents `u` and `v`. -/
def taskPts (d : Dev nD) (u : Buf (Elt F) (uoLoc d)) (v : Buf (Elt F) (ioLoc d)) (w : Fin 32) : sProp 𝕄 :=
  iprop((qLoc d ↦[qSet w]{fullShare} m (qLoc d)) ∗ (iLoc d ↦[iSet w]{fullShare} m (iLoc d))
    ∗ (utLoc d ↦{tq w} m (utLoc d)) ∗ (itLoc d ↦{tq w} m (itLoc d))
    ∗ (uoLoc d ↦[uoSet w]{fullShare} u) ∗ (ioLoc d ↦[ioSet w]{fullShare} v))

instance taskPts_storable (d : Dev nD) (u : Buf (Elt F) (uoLoc d)) (v : Buf (Elt F) (ioLoc d)) (w : Fin 32) :
    BI.Storable (upEmb : UEmb _ 𝕄) (taskPts m d u v w) := by unfold taskPts; infer_instance

/-! ## The task's addressing -/

section Tile

variable (d : Dev nD) (L : grid0.Coords)

/-- The SparseCore and the vector subcore of a task. -/
abbrev cV (L : grid0.Coords) : Fin τ.nSC := (L 0).castLE hcore0
abbrev jV (L : grid0.Coords) : Fin τ.nSub := (L 1).castLE hsub0
theorem lt_zero (L : grid0.Coords) : (L 0).val < 2 := (L 0).isLt
theorem lt_one (L : grid0.Coords) : (L 1).val < 16 := (L 1).isLt
/-- The task's number. -/
def wL (L : grid0.Coords) : Fin 32 := ⟨2 * (L 1).val + (L 0).val, by have := lt_zero L; have := lt_one L; omega⟩

/-- The windows the task addresses. -/
abbrev qK (L : grid0.Coords) : Memref sig .scVector .hbm S32 .i32 := (qV).slice (Rect.unit (s := S1024) (k0_off1 L) S32.size (k0_off1_inb L)) (fun _ => rfl)
abbrev uoK (L : grid0.Coords) : Memref sig .scVector .hbm S32x128 .f32 := (uoV).slice (Rect.unit (s := S1024x128) (k0_off2 L) S32x128.size (k0_off2_inb L)) (fun _ => rfl)
abbrev iK (L : grid0.Coords) : Memref sig .scVector .hbm S512 .i32 := (iV).slice (Rect.unit (s := S16384) (k0_off3 L) S512.size (k0_off3_inb L)) (fun _ => rfl)
abbrev ioK (L : grid0.Coords) : Memref sig .scVector .hbm S512x128 .f32 := (ioV).slice (Rect.unit (s := S16384x128) (k0_off4 L) S512x128.size (k0_off4_inb L)) (fun _ => rfl)
abbrev utK : Memref sig .scVector .hbm S100000x128 .f32 := (utV).slice (Rect.unit (s := S100000x128) ![0, 0] S100000x128.size inb_S100000x128_S100000x128_0_0) (fun _ => rfl)
abbrev itK : Memref sig .scVector .hbm S100000x128 .f32 := (itV).slice (Rect.unit (s := S100000x128) ![0, 0] S100000x128.size inb_S100000x128_S100000x128_0_0) (fun _ => rfl)
/-- The four windows of the row memory and of the list the four gathers use. -/
abbrev rK0 : Memref sig .scVector .vmem S128x128 .f32 := (s3V).slice (Rect.unit (s := S512x128) ![0, 0] S128x128.size inb_S512x128_S128x128_0_0) (fun _ => rfl)
abbrev rK1 : Memref sig .scVector .vmem S128x128 .f32 := (s3V).slice (Rect.unit (s := S512x128) ![128, 0] S128x128.size inb_S512x128_S128x128_128_0) (fun _ => rfl)
abbrev rK2 : Memref sig .scVector .vmem S128x128 .f32 := (s3V).slice (Rect.unit (s := S512x128) ![256, 0] S128x128.size inb_S512x128_S128x128_256_0) (fun _ => rfl)
abbrev rK3 : Memref sig .scVector .vmem S128x128 .f32 := (s3V).slice (Rect.unit (s := S512x128) ![384, 0] S128x128.size inb_S512x128_S128x128_384_0) (fun _ => rfl)
abbrev lK0 : Memref sig .scVector .vmem S128 .i32 := (s2V).slice (Rect.unit (s := S512) ![0] S128.size inb_S512_S128_0) (fun _ => rfl)
abbrev lK1 : Memref sig .scVector .vmem S128 .i32 := (s2V).slice (Rect.unit (s := S512) ![128] S128.size inb_S512_S128_128) (fun _ => rfl)
abbrev lK2 : Memref sig .scVector .vmem S128 .i32 := (s2V).slice (Rect.unit (s := S512) ![256] S128.size inb_S512_S128_256) (fun _ => rfl)
abbrev lK3 : Memref sig .scVector .vmem S128 .i32 := (s2V).slice (Rect.unit (s := S512) ![384] S128.size inb_S512_S128_384) (fun _ => rfl)

theorem rdiv : 4 ∣ S512x128.size 0 := ⟨128, rfl⟩
theorem ldiv : 4 ∣ S512.size 0 := ⟨128, rfl⟩
abbrev rSet (g : Fin 4) : Finset S512x128.Idx := (Rect.part (s := S512x128) (a₀ := 0) rdiv g).set
abbrev lSet (g : Fin 4) : Finset S512.Idx := (Rect.part (s := S512) (a₀ := 0) ldiv g).set

theorem set_qK : (qK L).view.set = qSet (wL L) := by
  show ((View.whole main_arg1_scv).slice _).set = _
  rw [View.set_slice_whole]
  refine congrArg (fun r : Rect _ => r.set) ?_
  unfold Rect.part Rect.block
  congr 1 <;> funext a
  · rw [k0_off1_eq]
    match a with
    | 0 => simp [Shape.partIx, Shape.partSize, wL]; omega
  · match a with
    | 0 => simp [Shape.partSize]

theorem set_iK : (iK L).view.set = iSet (wL L) := by
  show ((View.whole main_arg2_scv).slice _).set = _
  rw [View.set_slice_whole]
  refine congrArg (fun r : Rect _ => r.set) ?_
  unfold Rect.part Rect.block
  congr 1 <;> funext a
  · rw [k0_off3_eq]
    match a with
    | 0 => simp [Shape.partIx, Shape.partSize, wL]; omega
  · match a with
    | 0 => simp [Shape.partSize]

theorem set_uoK : (uoK L).view.set = uoSet (wL L) := by
  show ((View.whole main_v0_0_scv).slice _).set = _
  rw [View.set_slice_whole]
  refine congrArg (fun r : Rect _ => r.set) ?_
  unfold Rect.part Rect.block
  congr 1 <;> funext a
  · rw [k0_off2_eq]
    match a with
    | 0 => simp [Shape.partIx, Shape.partSize, wL]; omega
    | 1 => simp [Shape.partIx, Shape.partSize]
  · match a with
    | 0 => simp [Shape.partSize]
    | 1 => simp [Shape.partSize]

theorem set_ioK : (ioK L).view.set = ioSet (wL L) := by
  show ((View.whole main_v0_1_scv).slice _).set = _
  rw [View.set_slice_whole]
  refine congrArg (fun r : Rect _ => r.set) ?_
  unfold Rect.part Rect.block
  congr 1 <;> funext a
  · rw [k0_off4_eq]
    match a with
    | 0 => simp [Shape.partIx, Shape.partSize, wL]; omega
    | 1 => simp [Shape.partIx, Shape.partSize]
  · match a with
    | 0 => simp [Shape.partSize]
    | 1 => simp [Shape.partSize]

theorem set_rK (g : Fin 4) (off : Fin 2 → ℕ) (inb) (h : off = ![128 * g.val, 0]) :
    ((s3V).view.slice (Rect.unit (s := S512x128) off S128x128.size inb)).set = rSet g := by
  subst h
  show ((View.whole cc0_scratch3).slice _).set = _
  rw [View.set_slice_whole]
  refine congrArg (fun r : Rect _ => r.set) ?_
  unfold Rect.part Rect.block
  congr 1 <;> funext a
  · match a with
    | 0 => simp [Shape.partIx, Shape.partSize]; omega
    | 1 => simp [Shape.partIx, Shape.partSize]
  · match a with
    | 0 => simp [Shape.partSize]
    | 1 => simp [Shape.partSize]

theorem set_lK (g : Fin 4) (off : Fin 1 → ℕ) (inb) (h : off = ![128 * g.val]) :
    ((s2V).view.slice (Rect.unit (s := S512) off S128.size inb)).set = lSet g := by
  subst h
  show ((View.whole cc0_scratch2).slice _).set = _
  rw [View.set_slice_whole]
  refine congrArg (fun r : Rect _ => r.set) ?_
  unfold Rect.part Rect.block
  congr 1 <;> funext a
  · match a with
    | 0 => simp [Shape.partIx, Shape.partSize]; omega
  · match a with
    | 0 => simp [Shape.partSize]

/-! ## The values a task moves -/

/-- What the four gathers leave in the row memory: the task's part of the second result. -/
abbrev iStage (d : Dev nD) (L : grid0.Coords) : S512x128.Idx → Elt F .f32 := (ioK L).view.read (Elt F) (iVal m d)

/-- The list part copied in holds row numbers (the first list). -/
theorem q_inb (hpre : PreOK m) (fs : Buf (Elt F) ((V d (cV L) (jV L)).loc cc0_scratch0)) (pay : S32.Idx → Elt F .i32)
    (hpay : pay = (qK L).view.read (Elt F) (m (qLoc d))) :
    ∀ x, ((s0V).view.read (Elt F) (View.write (Elt F) (s0V).view fs pay Finset.univ) x).toNat < S100000x128.size gathers_S100000x128_S32x128.axis := by
  subst hpay; intro x
  rw [View.read_write_univ]
  exact hpre.1 d ((qK L).view.emb x)

/-- The list part copied in holds row numbers, whichever window of it a gather reads (the second list). -/
theorem i_inb (hpre : PreOK m) (fs : Buf (Elt F) ((V d (cV L) (jV L)).loc cc0_scratch2)) (pay : S512.Idx → Elt F .i32)
    (hpay : pay = (iK L).view.read (Elt F) (m (iLoc d))) (off : Fin 1 → ℕ) (inb) :
    ∀ x, (((s2V).view.slice (Rect.unit (s := S512) off S128.size inb)).read (Elt F) (View.write (Elt F) (s2V).view fs pay Finset.univ) x).toNat
      < S100000x128.size gathers_S100000x128_S128x128.axis := by
  subst hpay; intro x
  show ((View.write (Elt F) (View.whole cc0_scratch2) fs _ Finset.univ) _).toNat < _
  rw [View.write_whole_univ]
  exact hpre.2 d _

/-- The rows gathered from the first table are the task's part of the first gathered array. -/
theorem u_pay (fs : Buf (Elt F) ((V d (cV L) (jV L)).loc cc0_scratch0)) (pay : S32.Idx → Elt F .i32)
    (hpay : pay = (qK L).view.read (Elt F) (m (qLoc d)))
    (hin : ∀ x, ((s0V).view.read (Elt F) (View.write (Elt F) (s0V).view fs pay Finset.univ) x).toNat < S100000x128.size gathers_S100000x128_S32x128.axis) :
    SparseCore.gatherPayload gathers_S100000x128_S32x128 ((utK).view.read (Elt F) (m (utLoc d)))
        (SparseCore.rows ((s0V).view.read (Elt F) (View.write (Elt F) (s0V).view fs pay Finset.univ)) rfl hin)
      = (uoK L).view.read (Elt F) (uVal m d) := by
  subst hpay
  funext x
  refine (gatherPayload_apply _ _ _ _ _ x).trans ?_
  rw [View.read_write_univ]
  show m (utLoc d) _ = m (utLoc d) _
  refine congrArg (m (utLoc d)) (funext fun b => Fin.ext ?_)
  have hq : (qK L).view.emb (ix1 (x 0)) = ix1 ((uoK L).view.emb x 0) := by
    funext a
    apply Fin.ext
    match a with
    | 0 =>
      show k0_off1 L 0 + 1 * (x 0).val = k0_off2 L 0 + 1 * (x 0).val
      rw [k0_off1_eq, k0_off2_eq]; rfl
  match b with
  | 0 =>
    show 0 + 1 * (rowAt (m (qLoc d) ((qK L).view.emb (ix1 (x 0))))).val = (rowAt (m (qLoc d) (ix1 ((uoK L).view.emb x 0)))).val
    rw [hq]; exact (Nat.zero_add _).trans (Nat.one_mul _)
  | 1 =>
    show 0 + 1 * (x 1).val = k0_off2 L 1 + 1 * (x 1).val
    rw [k0_off2_eq]; rfl

/-- The rows one of the four gathers brings are its window of `iStage`. -/
theorem i_pay (g : Fin 4) (fs : Buf (Elt F) ((V d (cV L) (jV L)).loc cc0_scratch2)) (pay : S512.Idx → Elt F .i32)
    (hpay : pay = (iK L).view.read (Elt F) (m (iLoc d))) (loff : Fin 1 → ℕ) (linb) (hl : loff = ![128 * g.val])
    (roff : Fin 2 → ℕ) (rinb) (hr : roff = ![128 * g.val, 0])
    (hin : ∀ x, (((s2V).view.slice (Rect.unit (s := S512) loff S128.size linb)).read (Elt F) (View.write (Elt F) (s2V).view fs pay Finset.univ) x).toNat
      < S100000x128.size gathers_S100000x128_S128x128.axis) :
    SparseCore.gatherPayload gathers_S100000x128_S128x128 ((itK).view.read (Elt F) (m (itLoc d)))
        (SparseCore.rows (((s2V).view.slice (Rect.unit (s := S512) loff S128.size linb)).read (Elt F) (View.write (Elt F) (s2V).view fs pay Finset.univ)) rfl hin)
      = ((s3V).view.slice (Rect.unit (s := S512x128) roff S128x128.size rinb)).read (Elt F) (iStage m d L) := by
  subst hpay hl hr
  funext x
  refine (gatherPayload_apply _ _ _ _ _ x).trans ?_
  have hw : ∀ y, ((s2V).view.slice (Rect.unit (s := S512) ![128 * g.val] S128.size linb)).read (Elt F)
      (View.write (Elt F) (s2V).view fs ((iK L).view.read (Elt F) (m (iLoc d))) Finset.univ) y
      = m (iLoc d) ((iK L).view.emb ((Rect.unit (s := S512) ![128 * g.val] S128.size linb).emb y)) := by
    intro y
    show (View.write (Elt F) (View.whole cc0_scratch2) fs _ Finset.univ) _ = _
    rw [View.write_whole_univ]
    rfl
  rw [hw]
  show m (itLoc d) _ = m (itLoc d) _
  refine congrArg (m (itLoc d)) (funext fun b => Fin.ext ?_)
  have hq : (iK L).view.emb ((Rect.unit (s := S512) ![128 * g.val] S128.size linb).emb (ix1 (x 0)))
      = ix1 ((ioK L).view.emb ((Rect.unit (s := S512x128) ![128 * g.val, 0] S128x128.size rinb).emb x) 0) := by
    funext a
    apply Fin.ext
    match a with
    | 0 =>
      show k0_off3 L 0 + 1 * (128 * g.val + 1 * (x 0).val) = k0_off4 L 0 + 1 * (128 * g.val + 1 * (x 0).val)
      rw [k0_off3_eq, k0_off4_eq]; rfl
  match b with
  | 0 =>
    show 0 + 1 * (rowAt (m (iLoc d) ((iK L).view.emb ((Rect.unit (s := S512) ![128 * g.val] S128.size linb).emb (ix1 (x 0)))))).val
      = (rowAt (m (iLoc d) (ix1 ((ioK L).view.emb ((Rect.unit (s := S512x128) ![128 * g.val, 0] S128x128.size rinb).emb x) 0)))).val
    rw [hq]; exact (Nat.zero_add _).trans (Nat.one_mul _)
  | 1 =>
    show 0 + 1 * (x 1).val = k0_off4 L 1 + 1 * (0 + 1 * (x 1).val)
    rw [k0_off4_eq]; show _ = 0 + _; omega

end Tile

end Cert.Proof.KernelIdealRun
-- ==== Proof.KernelIdealTask.lean ====
/-
  The task of one vector subcore: its windows, and what its gathers deliver.

  The task of subcore `(L 0, L 1)` has number `2 (L 1) + L 0`. This file names the windows of the arrays and of the
  scratch buffers that it copies between, says which entries of the arrays they are, and states what each row gathered
  into the second result's scratch buffer delivers, for the four gathers that share one semaphore.
-/
module

public import proofs.«01_k».proof.Proof.KernelIdealTile

@[expose] public section

noncomputable section

namespace Cert.Proof.KernelIdealRun

open Cert.KernelIdeal Cert.KernelIdeal.Gen
open Cert.Proof.Streams

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "qV" => (Memref.whole Cert.KernelIdeal.main_arg1_scv : Memref Cert.KernelIdeal.sig Kind.scVector Space.hbm Cert.KernelIdeal.S1024 EltTy.i32)
local notation "iV" => (Memref.whole Cert.KernelIdeal.main_arg2_scv : Memref Cert.KernelIdeal.sig Kind.scVector Space.hbm Cert.KernelIdeal.S16384 EltTy.i32)
local notation "utV" => (Memref.whole Cert.KernelIdeal.main_arg3_scv : Memref Cert.KernelIdeal.sig Kind.scVector Space.hbm Cert.KernelIdeal.S100000x128 EltTy.f32)
local notation "itV" => (Memref.whole Cert.KernelIdeal.main_arg4_scv : Memref Cert.KernelIdeal.sig Kind.scVector Space.hbm Cert.KernelIdeal.S100000x128 EltTy.f32)
local notation "uoV" => (Memref.whole Cert.KernelIdeal.main_v0_0_scv : Memref Cert.KernelIdeal.sig Kind.scVector Space.hbm Cert.KernelIdeal.S1024x128 EltTy.f32)
local notation "ioV" => (Memref.whole Cert.KernelIdeal.main_v0_1_scv : Memref Cert.KernelIdeal.sig Kind.scVector Space.hbm Cert.KernelIdeal.S16384x128 EltTy.f32)
local notation "s0V" => (Memref.whole Cert.KernelIdeal.cc0_scratch0 : Memref Cert.KernelIdeal.sig Kind.scVector Space.vmem Cert.KernelIdeal.S32 EltTy.i32)
local notation "s1V" => (Memref.whole Cert.KernelIdeal.cc0_scratch1 : Memref Cert.KernelIdeal.sig Kind.scVector Space.vmem Cert.KernelIdeal.S32x128 EltTy.f32)
local notation "s2V" => (Memref.whole Cert.KernelIdeal.cc0_scratch2 : Memref Cert.KernelIdeal.sig Kind.scVector Space.vmem Cert.KernelIdeal.S512 EltTy.i32)
local notation "s3V" => (Memref.whole Cert.KernelIdeal.cc0_scratch3 : Memref Cert.KernelIdeal.sig Kind.scVector Space.vmem Cert.KernelIdeal.S512x128 EltTy.f32)

variable (m : (ℓ : Loc nD τ sig) → Buf (Elt F) ℓ)

section Tile

variable (d : Dev nD) (L : grid0.Coords)

/-! ## The windows of the task's own memories -/

/-- The thread of the task's vector subcore. -/
abbrev tV (d : Dev nD) (L : grid0.Coords) : Thread nD τ := V d (cV L) (jV L)

/-- The row memory held whole is its four windows held. -/
theorem rows_windows (f : Buf (Elt F) ((tV d L).loc cc0_scratch3)) :
    ((tV d L).loc cc0_scratch3 ↦{fullShare} f : sProp 𝕄)
      = iprop(((rK0).view.loc (tV d L) ↦[(rK0).view.set]{fullShare} f) ∗ ((rK1).view.loc (tV d L) ↦[(rK1).view.set]{fullShare} f)
          ∗ ((rK2).view.loc (tV d L) ↦[(rK2).view.set]{fullShare} f) ∗ ((rK3).view.loc (tV d L) ↦[(rK3).view.set]{fullShare} f)) := by
  rw [show (rK0).view.set = rSet 0 from set_rK 0 _ _ rfl, show (rK1).view.set = rSet 1 from set_rK 1 _ _ rfl,
    show (rK2).view.set = rSet 2 from set_rK 2 _ _ rfl, show (rK3).view.set = rSet 3 from set_rK 3 _ _ rfl]
  refine Eq.trans ?_ (bigSep_four (fun g : Fin 4 => ((tV d L).loc cc0_scratch3 ↦[rSet g]{fullShare} f : sProp 𝕄)))
  rw [← pointsTo_biUnion Finset.univ (ℓ := (tV d L).loc cc0_scratch3) rSet (fun i _ j _ h => Rect.part_disjoint rdiv h)]
  exact congrArg (fun S => ((tV d L).loc cc0_scratch3 ↦[S]{fullShare} f : sProp 𝕄)) (Rect.biUnion_part rdiv).symm

/-- The list memory held whole is its four windows held. -/
theorem list_windows (f : Buf (Elt F) ((tV d L).loc cc0_scratch2)) :
    ((tV d L).loc cc0_scratch2 ↦{fullShare} f : sProp 𝕄)
      = iprop(((lK0).view.loc (tV d L) ↦[(lK0).view.set]{fullShare} f) ∗ ((lK1).view.loc (tV d L) ↦[(lK1).view.set]{fullShare} f)
          ∗ ((lK2).view.loc (tV d L) ↦[(lK2).view.set]{fullShare} f) ∗ ((lK3).view.loc (tV d L) ↦[(lK3).view.set]{fullShare} f)) := by
  rw [show (lK0).view.set = lSet 0 from set_lK 0 _ _ rfl, show (lK1).view.set = lSet 1 from set_lK 1 _ _ rfl,
    show (lK2).view.set = lSet 2 from set_lK 2 _ _ rfl, show (lK3).view.set = lSet 3 from set_lK 3 _ _ rfl]
  refine Eq.trans ?_ (bigSep_four (fun g : Fin 4 => ((tV d L).loc cc0_scratch2 ↦[lSet g]{fullShare} f : sProp 𝕄)))
  rw [← pointsTo_biUnion Finset.univ (ℓ := (tV d L).loc cc0_scratch2) lSet (fun i _ j _ h => Rect.part_disjoint ldiv h)]
  exact congrArg (fun S => ((tV d L).loc cc0_scratch2 ↦[S]{fullShare} f : sProp 𝕄)) (Rect.biUnion_part ldiv).symm

theorem four_pos : 0 < 4 := by decide

/-- The share of the second table one of the four gathers reads. -/
abbrev sq (L : grid0.Coords) (g : Fin 4) : PosShare TreeShare := pieceOf (tq (wL L)) 4 four_pos g

set_option maxRecDepth 16384 in
/-- The task's share of the second table, over the elements a gather reads, is four shares of it. -/
theorem table_shares :
    ((itK).view.loc (tV d L) ↦[(itK).view.set]{tq (wL L)} m (itLoc d) : sProp 𝕄)
      = iprop(((itK).view.loc (tV d L) ↦[(itK).view.set]{sq L 0} m (itLoc d)) ∗ ((itK).view.loc (tV d L) ↦[(itK).view.set]{sq L 1} m (itLoc d))
          ∗ ((itK).view.loc (tV d L) ↦[(itK).view.set]{sq L 2} m (itLoc d)) ∗ ((itK).view.loc (tV d L) ↦[(itK).view.set]{sq L 3} m (itLoc d))) :=
  (pointsTo_piecesOf (ℓ := (itK).view.loc (tV d L)) ((itK).view.set) (m (itLoc d)) four_pos (tq (wL L))).trans
    (bigSep_four fun g => ((itK).view.loc (tV d L) ↦[(itK).view.set]{sq L g} m (itLoc d) : sProp 𝕄))

/-! ## The four gathers' rows -/

/-- The list part the second copy brings, as the list memory holds it. -/
abbrev lst (fs : Buf (Elt F) ((tV d L).loc cc0_scratch2)) : Buf (Elt F) ((tV d L).loc cc0_scratch2) :=
  View.write (Elt F) (s2V).view fs ((iK L).view.read (Elt F) (m (iLoc d))) Finset.univ

/-- A gather moves something. -/
theorem row_pos : 0 < S128x128.numel := by decide

/-- What one gather's rows deliver, its destination, list and table share given. -/
abbrev gRows (rK : Memref sig .scVector .vmem S128x128 .f32) (lK : Memref sig .scVector .vmem S128 .i32) (q : PosShare TreeShare)
    (fd : Buf (Elt F) (rK.view.loc (tV d L))) (fo : Buf (Elt F) (lK.view.loc (tV d L)))
    (hin : ∀ x, (lK.view.read (Elt F) fo x).toNat < S100000x128.size gathers_S100000x128_S128x128.axis) : Fin 128 → sProp 𝕄 :=
  rowDelivery (tV d L) itK rK gathers_S100000x128_S128x128 lK rfl row_pos q fullShare (m (itLoc d)) fd fo hin

/-- One gather's rows, all delivered: its window written with what it gathered, its share of the table, its list. -/
theorem gRows_join (rK : Memref sig .scVector .vmem S128x128 .f32) (lK : Memref sig .scVector .vmem S128 .i32) (q : PosShare TreeShare)
    (fd : Buf (Elt F) (rK.view.loc (tV d L))) (fo : Buf (Elt F) (lK.view.loc (tV d L)))
    (hin : ∀ x, (lK.view.read (Elt F) fo x).toNat < S100000x128.size gathers_S100000x128_S128x128.axis) :
    bigSep Finset.univ (gRows m d L rK lK q fd fo hin)
      ⊢ (iprop((rK.view.loc (tV d L) ↦[rK.view.set]{fullShare} (rK.view.write (Elt F) fd (SparseCore.gatherPayload gathers_S100000x128_S128x128
                ((itK).view.read (Elt F) (m (itLoc d))) (SparseCore.rows (lK.view.read (Elt F) fo) rfl hin)) Finset.univ))
          ∗ ((itK).view.loc (tV d L) ↦[(itK).view.set]{q} m (itLoc d)) ∗ (lK.view.loc (tV d L) ↦[lK.view.set]{fullShare} fo)) : sProp 𝕄) :=
  rowDelivery_join (Ix := HIx 1) (Name := ℕ) (U := UU) (Lvl := ℕ) (tV d L)

/-- Gather `g`'s rows, all delivered: its window of the row memory holds its part of the task's result. -/
theorem gRows_landed (g : Fin 4) (roff : Fin 2 → ℕ) (rinb) (hr : roff = ![128 * g.val, 0]) (loff : Fin 1 → ℕ) (linb) (hl : loff = ![128 * g.val])
    (q : PosShare TreeShare) (fd : Buf (Elt F) ((tV d L).loc cc0_scratch3)) (fs : Buf (Elt F) ((tV d L).loc cc0_scratch2)) (hin) :
    bigSep Finset.univ (gRows m d L ((s3V).slice (Rect.unit (s := S512x128) roff S128x128.size rinb) (fun _ => rfl))
        ((s2V).slice (Rect.unit (s := S512) loff S128.size linb) (fun _ => rfl)) q fd (lst m d L fs) hin)
      ⊢ (iprop(((tV d L).loc cc0_scratch3 ↦[((s3V).view.slice (Rect.unit (s := S512x128) roff S128x128.size rinb)).set]{fullShare} iStage m d L)
          ∗ ((itK).view.loc (tV d L) ↦[(itK).view.set]{q} m (itLoc d))
          ∗ ((tV d L).loc cc0_scratch2 ↦[((s2V).view.slice (Rect.unit (s := S512) loff S128.size linb)).set]{fullShare} lst m d L fs)) : sProp 𝕄) := by
  have hj := gRows_join m d L ((s3V).slice (Rect.unit (s := S512x128) roff S128x128.size rinb) (fun _ => rfl))
    ((s2V).slice (Rect.unit (s := S512) loff S128.size linb) (fun _ => rfl)) q fd (lst m d L fs) hin
  have hw := pointsTo_write (Ix := HIx 1) (Name := ℕ) (U := UU) (Lvl := ℕ) (tV d L)
    ((s3V).view.slice (Rect.unit (s := S512x128) roff S128x128.size rinb)) fullShare fd (iStage m d L) _
    (i_pay m d L g fs _ rfl loff linb hl roff rinb hr hin)
  iintro H
  ihave H := hj $$ H
  icases H with ⟨R, T, Ls⟩
  isplitl [R]; · iapply (Entails.of_eq hw); iexact R
  isplitl [T]; · iexact T
  iexact Ls

/-- What the four gathers' rows deliver: row `k` of gather `g`. -/
def itemD (hpre : PreOK m) (fd : Buf (Elt F) ((tV d L).loc cc0_scratch3)) (fs : Buf (Elt F) ((tV d L).loc cc0_scratch2)) :
    Fin 4 → Fin 128 → sProp 𝕄
  | 0 => gRows m d L rK0 lK0 (sq L 0) fd (lst m d L fs) (i_inb m d L hpre fs _ rfl _ _)
  | 1 => gRows m d L rK1 lK1 (sq L 1) fd (lst m d L fs) (i_inb m d L hpre fs _ rfl _ _)
  | 2 => gRows m d L rK2 lK2 (sq L 2) fd (lst m d L fs) (i_inb m d L hpre fs _ rfl _ _)
  | 3 => gRows m d L rK3 lK3 (sq L 3) fd (lst m d L fs) (i_inb m d L hpre fs _ rfl _ _)

instance itemD_storable (hpre : PreOK m) (fd : Buf (Elt F) ((tV d L).loc cc0_scratch3)) (fs : Buf (Elt F) ((tV d L).loc cc0_scratch2))
    (g : Fin 4) (k : Fin 128) : Storable (upEmb : UEmb _ 𝕄) (itemD m d L hpre fd fs g k) := by
  match g with
  | 0 => exact (rowDelivery_storable (Ix := HIx 1) (Name := ℕ) (U := UU) (Lvl := ℕ) _ _ _ _ _ _ _ _ _ _ _ _ _ _ : Storable (upEmb : UEmb _ 𝕄) (gRows m d L rK0 lK0 (sq L 0) fd (lst m d L fs) (i_inb m d L hpre fs _ rfl _ _) k))
  | 1 => exact (rowDelivery_storable (Ix := HIx 1) (Name := ℕ) (U := UU) (Lvl := ℕ) _ _ _ _ _ _ _ _ _ _ _ _ _ _ : Storable (upEmb : UEmb _ 𝕄) (gRows m d L rK1 lK1 (sq L 1) fd (lst m d L fs) (i_inb m d L hpre fs _ rfl _ _) k))
  | 2 => exact (rowDelivery_storable (Ix := HIx 1) (Name := ℕ) (U := UU) (Lvl := ℕ) _ _ _ _ _ _ _ _ _ _ _ _ _ _ : Storable (upEmb : UEmb _ 𝕄) (gRows m d L rK2 lK2 (sq L 2) fd (lst m d L fs) (i_inb m d L hpre fs _ rfl _ _) k))
  | 3 => exact (rowDelivery_storable (Ix := HIx 1) (Name := ℕ) (U := UU) (Lvl := ℕ) _ _ _ _ _ _ _ _ _ _ _ _ _ _ : Storable (upEmb : UEmb _ 𝕄) (gRows m d L rK3 lK3 (sq L 3) fd (lst m d L fs) (i_inb m d L hpre fs _ rfl _ _) k))

/-- What the batch of 512 rows delivers at each of its places. -/
abbrev itemBatch (hpre : PreOK m) (fd : Buf (Elt F) ((tV d L).loc cc0_scratch3)) (fs : Buf (Elt F) ((tV d L).loc cc0_scratch2)) :
    Fin 512 → sProp 𝕄 := quarter (itemD m d L hpre fd fs)

instance itemBatch_storable (hpre : PreOK m) (fd : Buf (Elt F) ((tV d L).loc cc0_scratch3)) (fs : Buf (Elt F) ((tV d L).loc cc0_scratch2))
    (t : Fin 512) : Storable (upEmb : UEmb _ 𝕄) (itemBatch m d L hpre fd fs t) := by
  unfold itemBatch quarter; infer_instance

set_option maxHeartbeats 1000000 in
/-- All 512 rows delivered: the row memory holds the task's part of the second result, and the table's share and the list
    are whole again. -/
theorem items_landed (hpre : PreOK m) (fd : Buf (Elt F) ((tV d L).loc cc0_scratch3)) (fs : Buf (Elt F) ((tV d L).loc cc0_scratch2)) :
    bigSep Finset.univ (itemBatch m d L hpre fd fs)
      ⊢ (iprop(((tV d L).loc cc0_scratch3 ↦{fullShare} iStage m d L) ∗ ((itK).view.loc (tV d L) ↦[(itK).view.set]{tq (wL L)} m (itLoc d))
          ∗ ((tV d L).loc cc0_scratch2 ↦{fullShare} lst m d L fs)) : sProp 𝕄) := by
  unfold itemBatch
  rw [bigSep_quarter, bigSep_four, rows_windows d L (iStage m d L), table_shares, list_windows d L (lst m d L fs)]
  iintro ⟨H0, H1, H2, H3⟩
  ihave H0 := (Entails.of_eq (show bigSep Finset.univ (itemD m d L hpre fd fs 0)
    = bigSep Finset.univ (gRows m d L rK0 lK0 (sq L 0) fd (lst m d L fs) (i_inb m d L hpre fs _ rfl _ _)) from rfl)) $$ H0
  ihave H0 := (gRows_landed m d L 0 _ _ rfl _ _ rfl (sq L 0) fd fs (i_inb m d L hpre fs _ rfl _ _)) $$ H0
  ihave H1 := (Entails.of_eq (show bigSep Finset.univ (itemD m d L hpre fd fs 1)
    = bigSep Finset.univ (gRows m d L rK1 lK1 (sq L 1) fd (lst m d L fs) (i_inb m d L hpre fs _ rfl _ _)) from rfl)) $$ H1
  ihave H1 := (gRows_landed m d L 1 _ _ rfl _ _ rfl (sq L 1) fd fs (i_inb m d L hpre fs _ rfl _ _)) $$ H1
  ihave H2 := (Entails.of_eq (show bigSep Finset.univ (itemD m d L hpre fd fs 2)
    = bigSep Finset.univ (gRows m d L rK2 lK2 (sq L 2) fd (lst m d L fs) (i_inb m d L hpre fs _ rfl _ _)) from rfl)) $$ H2
  ihave H2 := (gRows_landed m d L 2 _ _ rfl _ _ rfl (sq L 2) fd fs (i_inb m d L hpre fs _ rfl _ _)) $$ H2
  ihave H3 := (Entails.of_eq (show bigSep Finset.univ (itemD m d L hpre fd fs 3)
    = bigSep Finset.univ (gRows m d L rK3 lK3 (sq L 3) fd (lst m d L fs) (i_inb m d L hpre fs _ rfl _ _)) from rfl)) $$ H3
  ihave H3 := (gRows_landed m d L 3 _ _ rfl _ _ rfl (sq L 3) fd fs (i_inb m d L hpre fs _ rfl _ _)) $$ H3
  icases H0 with ⟨R0, T0, L0⟩
  icases H1 with ⟨R1, T1, L1⟩
  icases H2 with ⟨R2, T2, L2⟩
  icases H3 with ⟨R3, T3, L3⟩
  isplitl [R0 R1 R2 R3]
  · isplitl [R0]; · iexact R0
    isplitl [R1]; · iexact R1
    isplitl [R2]; · iexact R2
    iexact R3
  isplitl [T0 T1 T2 T3]
  · isplitl [T0]; · iexact T0
    isplitl [T1]; · iexact T1
    isplitl [T2]; · iexact T2
    iexact T3
  isplitl [L0]; · iexact L0
  isplitl [L1]; · iexact L1
  isplitl [L2]; · iexact L2
  iexact L3

end Tile

end Cert.Proof.KernelIdealRun
-- ==== Proof.KernelIdealBody.lean ====
/-
  The task of one vector subcore, run once: what it holds before it, and what it leaves.

  `tile_body` runs the task of subcore `(L 0, L 1)`: the two copies and the gather of the first result, then the copy of
  the second list, the four gathers issued one after another into one batch of 512 rows on one semaphore, their four
  waits (`Streams.wp_indirectGatherBatch` issues a gather into the batch), and the copy out. It ends holding the task's
  part of the first result at `uVal` and of the second at `iVal`, and everything else as it was.
-/
module

public import proofs.«01_k».proof.Proof.KernelIdealTask

@[expose] public section

noncomputable section

namespace Cert.Proof.KernelIdealRun

open Cert.KernelIdeal Cert.KernelIdeal.Gen
open Cert.Proof.Streams

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "qV" => (Memref.whole Cert.KernelIdeal.main_arg1_scv : Memref Cert.KernelIdeal.sig Kind.scVector Space.hbm Cert.KernelIdeal.S1024 EltTy.i32)
local notation "iV" => (Memref.whole Cert.KernelIdeal.main_arg2_scv : Memref Cert.KernelIdeal.sig Kind.scVector Space.hbm Cert.KernelIdeal.S16384 EltTy.i32)
local notation "utV" => (Memref.whole Cert.KernelIdeal.main_arg3_scv : Memref Cert.KernelIdeal.sig Kind.scVector Space.hbm Cert.KernelIdeal.S100000x128 EltTy.f32)
local notation "itV" => (Memref.whole Cert.KernelIdeal.main_arg4_scv : Memref Cert.KernelIdeal.sig Kind.scVector Space.hbm Cert.KernelIdeal.S100000x128 EltTy.f32)
local notation "uoV" => (Memref.whole Cert.KernelIdeal.main_v0_0_scv : Memref Cert.KernelIdeal.sig Kind.scVector Space.hbm Cert.KernelIdeal.S1024x128 EltTy.f32)
local notation "ioV" => (Memref.whole Cert.KernelIdeal.main_v0_1_scv : Memref Cert.KernelIdeal.sig Kind.scVector Space.hbm Cert.KernelIdeal.S16384x128 EltTy.f32)
local notation "s0V" => (Memref.whole Cert.KernelIdeal.cc0_scratch0 : Memref Cert.KernelIdeal.sig Kind.scVector Space.vmem Cert.KernelIdeal.S32 EltTy.i32)
local notation "s1V" => (Memref.whole Cert.KernelIdeal.cc0_scratch1 : Memref Cert.KernelIdeal.sig Kind.scVector Space.vmem Cert.KernelIdeal.S32x128 EltTy.f32)
local notation "s2V" => (Memref.whole Cert.KernelIdeal.cc0_scratch2 : Memref Cert.KernelIdeal.sig Kind.scVector Space.vmem Cert.KernelIdeal.S512 EltTy.i32)
local notation "s3V" => (Memref.whole Cert.KernelIdeal.cc0_scratch3 : Memref Cert.KernelIdeal.sig Kind.scVector Space.vmem Cert.KernelIdeal.S512x128 EltTy.f32)

variable (m : (ℓ : Loc nD τ sig) → Buf (Elt F) ℓ)

section Tile

variable (d : Dev nD) (L : grid0.Coords)

/-! ## What the subcore holds of its own -/

/-- The counter of a semaphore of the task's subcore. -/
abbrev cellV (s : DmaSems sig S_) : GSem nD τ sig := (tV d L, .dma s.sem)

theorem cellV_mem (s : DmaSems sig S_) (h : (SemLoc.dma s.sem : SemLoc sig).isScoped .scVector = true) : cellV d L s ∈ ownCells (tV d L) :=
  (mem_ownCells (g := cellV d L s)).mpr ⟨rfl, h⟩
theorem cellV_ne {s s' : DmaSems sig S_} (h : (SemLoc.dma s.sem : SemLoc sig) ≠ .dma s'.sem) : cellV d L s ≠ cellV d L s' :=
  fun e => h (congrArg Prod.snd e)

/-- The subcore's counters are the task's six and the rest. -/
theorem ownSems0_V :
    (ownSems0 (tV d L) : sProp 𝕄)
      = iprop(semVal (cellV d L cc0_scratch4) 0 ∗ semVal (cellV d L cc0_scratch5) 0 ∗ semVal (cellV d L cc0_scoped0) 0 ∗ semVal (cellV d L cc0_scoped1) 0 ∗ semVal (cellV d L cc0_scoped2) 0 ∗ semVal (cellV d L cc0_scoped3) 0
          ∗ bigSep (((((((ownCells (tV d L)).erase (cellV d L cc0_scratch4)).erase (cellV d L cc0_scratch5)).erase (cellV d L cc0_scoped0)).erase (cellV d L cc0_scoped1)).erase (cellV d L cc0_scoped2)).erase (cellV d L cc0_scoped3)) fun g => semVal g 0) := by
  unfold SparseCore.Cfg.ownSems0
  rw [SparseCore.bigSep_erase' (cellV_mem d L cc0_scratch4 (by decide)),
    SparseCore.bigSep_erase' (Finset.mem_erase.mpr ⟨cellV_ne d L (by decide), (cellV_mem d L cc0_scratch5 (by decide))⟩),
    SparseCore.bigSep_erase' (Finset.mem_erase.mpr ⟨cellV_ne d L (by decide), (Finset.mem_erase.mpr ⟨cellV_ne d L (by decide), (cellV_mem d L cc0_scoped0 (by decide))⟩)⟩),
    SparseCore.bigSep_erase' (Finset.mem_erase.mpr ⟨cellV_ne d L (by decide), (Finset.mem_erase.mpr ⟨cellV_ne d L (by decide), (Finset.mem_erase.mpr ⟨cellV_ne d L (by decide), (cellV_mem d L cc0_scoped1 (by decide))⟩)⟩)⟩),
    SparseCore.bigSep_erase' (Finset.mem_erase.mpr ⟨cellV_ne d L (by decide), (Finset.mem_erase.mpr ⟨cellV_ne d L (by decide), (Finset.mem_erase.mpr ⟨cellV_ne d L (by decide), (Finset.mem_erase.mpr ⟨cellV_ne d L (by decide), (cellV_mem d L cc0_scoped2 (by decide))⟩)⟩)⟩)⟩),
    SparseCore.bigSep_erase' (Finset.mem_erase.mpr ⟨cellV_ne d L (by decide), (Finset.mem_erase.mpr ⟨cellV_ne d L (by decide), (Finset.mem_erase.mpr ⟨cellV_ne d L (by decide), (Finset.mem_erase.mpr ⟨cellV_ne d L (by decide), (Finset.mem_erase.mpr ⟨cellV_ne d L (by decide), (cellV_mem d L cc0_scoped3 (by decide))⟩)⟩)⟩)⟩)⟩)]

/-- The subcore's memories are the task's four, at some contents, and the rest. -/
theorem ownBufs_V :
    (ownBufs (tV d L) : sProp 𝕄)
      = iprop((∃ f, (tV d L).loc cc0_scratch0 ↦{fullShare} f) ∗ (∃ f, (tV d L).loc cc0_scratch1 ↦{fullShare} f) ∗ (∃ f, (tV d L).loc cc0_scratch2 ↦{fullShare} f) ∗ (∃ f, (tV d L).loc cc0_scratch3 ↦{fullShare} f)
          ∗ bigSep (((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), (SparseCore.Cfg.mem_ownRefs_of_owner (p := Proc.scVector (cV L) (jV L)) (b := (Proc.scVector (cV L) (jV L)).devRef cc0_scratch1) rfl)⟩),
    SparseCore.bigSep_erase' (Finset.mem_erase.mpr ⟨fun e => absurd (Proc.devRef_injective _ e) (show (cc0_scratch2 : Ref sig .scVector) ≠ cc0_scratch1 by decide), (Finset.mem_erase.mpr ⟨fun e => absurd (Proc.devRef_injective _ e) (show (cc0_scratch2 : Ref sig .scVector) ≠ cc0_scratch0 by decide), (SparseCore.Cfg.mem_ownRefs_of_owner (p := Proc.scVector (cV L) (jV L)) (b := (Proc.scVector (cV L) (jV L)).devRef cc0_scratch2) rfl)⟩)⟩),
    SparseCore.bigSep_erase' (Finset.mem_erase.mpr ⟨fun e => absurd (Proc.devRef_injective _ e) (show (cc0_scratch3 : Ref sig .scVector) ≠ cc0_scratch2 by decide), (Finset.mem_erase.mpr ⟨fun e => absurd (Proc.devRef_injective _ e) (show (cc0_scratch3 : Ref sig .scVector) ≠ cc0_scratch1 by decide), (Finset.mem_erase.mpr ⟨fun e => absurd (Proc.devRef_injective _ e) (show (cc0_scratch3 : Ref sig .scVector) ≠ cc0_scratch0 by decide), (SparseCore.Cfg.mem_ownRefs_of_owner (p := Proc.scVector (cV L) (jV L)) (b := (Proc.scVector (cV L) (jV L)).devRef cc0_scratch3) rfl)⟩)⟩)⟩)]

/-! ## The credits of the gathers' rows -/

/-- The credit of one row of a gather. -/
abbrev rowN : ℕ := ((rK0).slice (S128x128.rowRect gathers_S100000x128_S128x128.axis' ⟨0, by decide⟩) (S128x128.stride_rowRect gathers_S100000x128_S128x128.axis' ⟨0, by decide⟩)).view.dmaCredit

theorem rowN_pos : 0 < rowN := by decide
theorem rowN_0 : ∀ i, ((rK0).slice (S128x128.rowRect gathers_S100000x128_S128x128.axis' i) (S128x128.stride_rowRect gathers_S100000x128_S128x128.axis' i)).view.dmaCredit = rowN := by decide
theorem rowN_1 : ∀ i, ((rK1).slice (S128x128.rowRect gathers_S100000x128_S128x128.axis' i) (S128x128.stride_rowRect gathers_S100000x128_S128x128.axis' i)).view.dmaCredit = rowN := by decide
theorem rowN_2 : ∀ i, ((rK2).slice (S128x128.rowRect gathers_S100000x128_S128x128.axis' i) (S128x128.stride_rowRect gathers_S100000x128_S128x128.axis' i)).view.dmaCredit = rowN := by decide
theorem rowN_3 : ∀ i, ((rK3).slice (S128x128.rowRect gathers_S100000x128_S128x128.axis' i) (S128x128.stride_rowRect gathers_S100000x128_S128x128.axis' i)).view.dmaCredit = rowN := by decide
/-- The credit of a whole gather is 128 rows'. -/
theorem winN_0 : (rK0).view.dmaCredit = 128 * rowN := by decide
theorem winN_1 : (rK1).view.dmaCredit = 128 * rowN := by decide
theorem winN_2 : (rK2).view.dmaCredit = 128 * rowN := by decide
theorem winN_3 : (rK3).view.dmaCredit = 128 * rowN := by decide
theorem userN : ∑ j, ((s1V).slice (S32x128.rowRect gathers_S100000x128_S32x128.axis' j) (S32x128.stride_rowRect gathers_S100000x128_S32x128.axis' j)).view.dmaCredit
    = (s1V).view.dmaCredit := by decide

/-! ## The task -/

variable [FloatOps F]

set_option maxHeartbeats 8000000 in
/-- The task on vector subcore `(L 0, L 1)` of device `d`. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ taskPts m d (m (uoLoc d)) (m (ioLoc d)) (wL L)
        ∗ scopedBufs (tV d L) ∗ scopedSems0 (tV d L) ∗ owes (tV d L) O W)
      ⊢ wp frame (wpE (defs₀ (F := F)) 𝒱₀ (tV d L) none) Set.univ
          (cc0__gather_body L qV (Memref.isWhole_whole _) iV (Memref.isWhole_whole _) utV (Memref.isWhole_whole _) itV (Memref.isWhole_whole _)
            uoV (Memref.isWhole_whole _) ioV (Memref.isWhole_whole _) s0V (Memref.isWhole_whole _) s1V (Memref.isWhole_whole _)
            s2V (Memref.isWhole_whole _) s3V (Memref.isWhole_whole _) cc0_scratch4 cc0_scratch5 cc0_scoped0 cc0_scoped1 cc0_scoped2 cc0_scoped3)
          fun _ => iprop(taskPts m d (uVal m d) (iVal m d) (wL L)
            ∗ scopedBufs (tV d L) ∗ scopedSems0 (tV d L)
            ∗ ∃ W', ⌜∀ p ∈ W', p ∈ W ∨ p.2 = none⌝ ∗ owes (tV d L) O W') := by
  simp only [cc0__gather_body_eq_skeleton]; unfold cc0__gather_body_skel
  simp only [k0_part1_eq_skeleton, k0_part2_eq_skeleton]; unfold k0_part1_skel k0_part2_skel
  rw [(K (F := F)).scopedBufs_V hF d (cV L) (jV L), SparseCore.Cfg.scopedSems0_V (Val := Elt F) d (cV L) (jV L), ownSems0_V, ownBufs_V]
  unfold taskPts
  iintro ⟨#Hlv, -, ⟨Hq, Hi, Hut, Hit, Huo, Hio⟩, ⟨⟨%f0, H0⟩, ⟨%f1, H1⟩, ⟨%f2, H2⟩, ⟨%f3, H3⟩, Hbufs⟩, ⟨Hc4, Hc5, Hs0, Hs1, Hs2, Hs3, Hsems⟩, HO⟩
  ihave Hmw := (show levAts (K (F := F)).L (K (F := F)).lev ⊢ Transfers.MayWaits (tV d L) (default : HIx 1) O from
    (K (F := F)).mayWaits_none (thr := tV d L) hO) $$ Hlv
  ihave Hq := (Entails.of_eq (show (qLoc d ↦[qSet (wL L)]{fullShare} m (qLoc d) : sProp 𝕄)
      = (qK L).view.loc (tV d L) ↦[(qK L).view.set]{fullShare} m (qLoc d) by rw [set_qK])) $$ Hq
  ihave Hi := (Entails.of_eq (show (iLoc d ↦[iSet (wL L)]{fullShare} m (iLoc d) : sProp 𝕄)
      = (iK L).view.loc (tV d L) ↦[(iK L).view.set]{fullShare} m (iLoc d) by rw [set_iK])) $$ Hi
  ihave Huo := (Entails.of_eq (show (uoLoc d ↦[uoSet (wL L)]{fullShare} m (uoLoc d) : sProp 𝕄)
      = (uoK L).view.loc (tV d L) ↦[(uoK L).view.set]{fullShare} m (uoLoc d) by rw [set_uoK])) $$ Huo
  ihave Hio := (Entails.of_eq (show (ioLoc d ↦[ioSet (wL L)]{fullShare} m (ioLoc d) : sProp 𝕄)
      = (ioK L).view.loc (tV d L) ↦[(ioK L).view.set]{fullShare} m (ioLoc d) by rw [set_ioK])) $$ Hio
  ihave Hut := (Entails.of_eq (show (utLoc d ↦{tq (wL L)} m (utLoc d) : sProp 𝕄) = (utK).view.loc (tV d L) ↦{tq (wL L)} m (utLoc d) from rfl)) $$ Hut
  ihave H0 := (Entails.of_eq (show ((tV d L).loc cc0_scratch0 ↦{fullShare} f0 : sProp 𝕄) = (s0V).view.loc (tV d L) ↦{fullShare} f0 from rfl)) $$ H0
  ihave H1 := (Entails.of_eq (show ((tV d L).loc cc0_scratch1 ↦{fullShare} f1 : sProp 𝕄) = (s1V).view.loc (tV d L) ↦{fullShare} f1 from rfl)) $$ H1
  ihave H2 := (Entails.of_eq (show ((tV d L).loc cc0_scratch2 ↦{fullShare} f2 : sProp 𝕄) = (s2V).view.loc (tV d L) ↦{fullShare} f2 from rfl)) $$ H2
  sl_exec
  iapply (SparseCore.wp_gatherFromWhole countersEmb 𝒱₀ (tV d L) none (hg := gathers_S100000x128_S32x128) (default : HIx 1)
      (s1V).view.dmaCredit userN (by decide) (q_inb m d L hpre f0 _ rfl)) $$ [Hut H1 H0 Hc5]
  · isplitl [Hut]; · iexact Hut
    isplitl [H1]; · iexact H1
    isplitl [H0]; · iexact H0
    iexact Hc5
  iintro Hfl
  sl_exec
  iapply (Transfers.wp_waitLocalO countersEmb 𝒱₀ (tV d L) none (default : HIx 1) (rfl : (s1V).view.dmaCredit = _)) $$ [Hfl HO]
  · isplitl [Hfl]; · iexact Hfl
    isplitl [HO]; · iexact HO
    iapply (Transfers.MayWaits.elim (SemLoc.dma cc0_scratch5.sem)) $$ Hmw
  iintro ⟨⟨H1, Hut, H0⟩, Hc5, HO⟩
  sl_exec
  ihave H2 := (Entails.of_eq (show ((s2V).view.loc (tV d L) ↦{fullShare} View.write (Elt F) (s2V).view f2 (tile_body.sl.dma0_2 m d L) Finset.univ : sProp 𝕄)
      = (tV d L).loc cc0_scratch2 ↦{fullShare} lst m d L f2 from rfl)) $$ H2
  imod (Transfers.batch_alloc' countersEmb (tV d L) (default : HIx 1) rowN (itemBatch m d L hpre f3 f2) (sm := .dma cc0_scratch4.sem) (E := Set.univ)) $$ Hc4 with HB
  ihave Hits := (pointsTo_split_subset (q := tq (wL L)) (f := m (itLoc d)) (ℓ := itLoc d) (S := Finset.univ) (Finset.subset_univ (itK).view.set)).1 $$ Hit
  icases Hits with ⟨Hit, Hitr⟩
  ihave Hit := (Entails.of_eq (table_shares m d L)) $$ Hit
  icases Hit with ⟨T0, T1, T2, T3⟩
  ihave H3 := (Entails.of_eq (rows_windows d L f3)) $$ H3
  icases H3 with ⟨R0, R1, R2, R3⟩
  ihave H2 := (Entails.of_eq (list_windows d L (lst m d L f2))) $$ H2
  icases H2 with ⟨L0, L1, L2, L3⟩
  iapply (wp_indirectGatherBatch countersEmb 𝒱₀ (tV d L) none (src := itK) (dst := rK0) (offs := lK0) (hg := gathers_S100000x128_S128x128)
      (j := 0) (u := 0) (D := itemBatch m d L hpre f3 f2) (default : HIx 1) rowN rowN_0 row_pos (i_inb m d L hpre f2 _ rfl _ _) (by decide) (Nat.zero_le _)
      (fun i => Entails.of_eq (quarter_at (itemD m d L hpre f3 f2) 0 i 0 rfl _).symm)) $$ [T0 R0 L0 HB]
  · isplitl [T0]; · iexact T0
    isplitl [R0]; · iexact R0
    isplitl [L0]; · iexact L0
    iexact HB
  iintro HB
  sl_exec
  iapply (wp_indirectGatherBatch countersEmb 𝒱₀ (tV d L) none (src := itK) (dst := rK1) (offs := lK1) (hg := gathers_S100000x128_S128x128)
      (j := 128) (u := 0) (D := itemBatch m d L hpre f3 f2) (default : HIx 1) rowN rowN_1 row_pos (i_inb m d L hpre f2 _ rfl _ _) (by decide) (Nat.zero_le _)
      (fun i => Entails.of_eq (quarter_at (itemD m d L hpre f3 f2) 1 i 128 rfl _).symm)) $$ [T1 R1 L1 HB]
  · isplitl [T1]; · iexact T1
    isplitl [R1]; · iexact R1
    isplitl [L1]; · iexact L1
    iexact HB
  iintro HB
  sl_exec
  iapply (wp_indirectGatherBatch countersEmb 𝒱₀ (tV d L) none (src := itK) (dst := rK2) (offs := lK2) (hg := gathers_S100000x128_S128x128)
      (j := 256) (u := 0) (D := itemBatch m d L hpre f3 f2) (default : HIx 1) rowN rowN_2 row_pos (i_inb m d L hpre f2 _ rfl _ _) (by decide) (Nat.zero_le _)
      (fun i => Entails.of_eq (quarter_at (itemD m d L hpre f3 f2) 2 i 256 rfl _).symm)) $$ [T2 R2 L2 HB]
  · isplitl [T2]; · iexact T2
    isplitl [R2]; · iexact R2
    isplitl [L2]; · iexact L2
    iexact HB
  iintro HB
  sl_exec
  iapply (wp_indirectGatherBatch countersEmb 𝒱₀ (tV d L) none (src := itK) (dst := rK3) (offs := lK3) (hg := gathers_S100000x128_S128x128)
      (j := 384) (u := 0) (D := itemBatch m d L hpre f3 f2) (default : HIx 1) rowN rowN_3 row_pos (i_inb m d L hpre f2 _ rfl _ _) (by decide) (Nat.zero_le _)
      (fun i => Entails.of_eq (quarter_at (itemD m d L hpre f3 f2) 3 i 384 rfl _).symm)) $$ [T3 R3 L3 HB]
  · isplitl [T3]; · iexact T3
    isplitl [R3]; · iexact R3
    isplitl [L3]; · iexact L3
    iexact HB
  iintro HB
  sl_exec
  iapply (Transfers.wp_waitBatchMulO countersEmb 𝒱₀ (tV d L) none (default : HIx 1) 128 winN_0 (u := 0 * rowN) (j := 512) (by decide)) $$ [HB HO]
  · isplitl [HB]; · iexact HB
    isplitl [HO]; · iexact HO
    iapply (Transfers.MayWaits.elim (SemLoc.dma cc0_scratch4.sem)) $$ Hmw
  iintro ⟨HB, HO⟩
  sl_exec
  iapply (Transfers.wp_waitBatchMulO countersEmb 𝒱₀ (tV d L) none (default : HIx 1) 128 winN_1 (u := 128 * rowN) (j := 512) (by decide)) $$ [HB HO]
  · isplitl [HB]; · iexact HB
    isplitl [HO]; · iexact HO
    iapply (Transfers.MayWaits.elim (SemLoc.dma cc0_scratch4.sem)) $$ Hmw
  iintro ⟨HB, HO⟩
  sl_exec
  iapply (Transfers.wp_waitBatchMulO countersEmb 𝒱₀ (tV d L) none (default : HIx 1) 128 winN_2 (u := 256 * rowN) (j := 512) (by decide)) $$ [HB HO]
  · isplitl [HB]; · iexact HB
    isplitl [HO]; · iexact HO
    iapply (Transfers.MayWaits.elim (SemLoc.dma cc0_scratch4.sem)) $$ Hmw
  iintro ⟨HB, HO⟩
  sl_step
  iapply (Transfers.wp_waitBatchAllO countersEmb 𝒱₀ (tV d L) none (default : HIx 1) winN_3 rowN_pos (n := 512) (u := 384 * rowN) (by decide)) $$ [HB HO]
  · isplitl [HB]; · iexact HB
    isplitl [HO]; · iexact HO
    iapply (Transfers.MayWaits.elim (SemLoc.dma cc0_scratch4.sem)) $$ Hmw
  iintro ⟨HD, Hc4, HO⟩
  iapply (Entails.of_eq (wp_bind frame _ _ _ _ _).symm)
  iapply (Entails.of_eq (wp_bind frame _ _ _ _ _).symm)
  sl_step
  ihave HD := (items_landed m d L hpre f3 f2) $$ HD
  icases HD with ⟨H3, Hit, H2⟩
  obtain ⟨st, hst⟩ : ∃ st : Buf (Elt F) ((s3V).view.loc (tV d L)), st = iStage m d L := ⟨_, rfl⟩
  ihave H3 := (Entails.of_eq (show ((tV d L).loc cc0_scratch3 ↦{fullShare} iStage m d L : sProp 𝕄) = (s3V).view.loc (tV d L) ↦{fullShare} st by rw [hst])) $$ H3
  sl_exec
  sl_step
  have hu : tile_body.sl.dma0_1 m d L hpre f0 f1 = (uoK L).view.read (Elt F) (uVal m d) := by
    refine Eq.trans ?_ (u_pay m d L f0 _ rfl (q_inb m d L hpre f0 _ rfl))
    exact View.read_write_univ _ _
  have hi : tile_body.sl.dma0_3 d L st = (ioK L).view.read (Elt F) (iVal m d) := hst
  have eu := pointsTo_writes (Ix := HIx 1) (Name := ℕ) (U := UU) (Lvl := ℕ) (tV d L) (uoK L).view fullShare (m (uoLoc d)) (uVal m d) _ hu
  have ei := pointsTo_writes (Ix := HIx 1) (Name := ℕ) (U := UU) (Lvl := ℕ) (tV d L) (ioK L).view fullShare (m (ioLoc d)) (iVal m d) _ hi
  isplitl [Hq Hi Hut Hit Hitr Huo Hio]
  · isplitl [Hq]
    · iapply (Entails.of_eq (show ((qK L).view.loc (tV d L) ↦[(qK L).view.set]{fullShare} m (qLoc d) : sProp 𝕄)
        = qLoc d ↦[qSet (wL L)]{fullShare} m (qLoc d) by rw [set_qK])); iexact Hq
    isplitl [Hi]
    · iapply (Entails.of_eq (show ((iK L).view.loc (tV d L) ↦[(iK L).view.set]{fullShare} m (iLoc d) : sProp 𝕄)
        = iLoc d ↦[iSet (wL L)]{fullShare} m (iLoc d) by rw [set_iK])); iexact Hi
    isplitl [Hut]; · iexact Hut
    isplitl [Hit Hitr]
    · iapply (pointsTo_split_subset (q := tq (wL L)) (f := m (itLoc d)) (ℓ := itLoc d) (S := Finset.univ) (Finset.subset_univ (itK).view.set)).2
      isplitl [Hit]; · iexact Hit
      iexact Hitr
    isplitl [Huo]
    · iapply (Entails.of_eq (show ((uoK L).view.loc (tV d L) ↦[(uoK L).view.set]{fullShare} uVal m d : sProp 𝕄)
        = uoLoc d ↦[uoSet (wL L)]{fullShare} uVal m d by rw [set_uoK]))
      iapply (Entails.of_eq eu); iexact Huo
    · iapply (Entails.of_eq (show ((ioK L).view.loc (tV d L) ↦[(ioK L).view.set]{fullShare} iVal m d : sProp 𝕄)
        = ioLoc d ↦[ioSet (wL L)]{fullShare} iVal m d by rw [set_ioK]))
      iapply (Entails.of_eq ei); iexact Hio
  isplitl [H0 H1 H2 H3 Hbufs]
  · isplitl [H0]; · iexists _; iexact H0
    isplitl [H1]; · iexists _; iexact H1
    isplitl [H2]; · iexists _; iexact H2
    isplitl [H3]; · iexists _; iexact H3
    iexact Hbufs
  isplitl [Hc4 Hc5 Hs0 Hs1 Hs2 Hs3 Hsems]
  · isplitl [Hc4]; · iexact Hc4
    isplitl [Hc5]; · iexact Hc5
    isplitl [Hs0]; · iexact Hs0
    isplitl [Hs1]; · iexact Hs1
    isplitl [Hs2]; · iexact Hs2
    isplitl [Hs3]; · iexact Hs3
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.KernelIdealRun
-- ==== Proof.KernelIdealRegion.lean ====
/-
  The TensorCore's region: the inner products of the gathered rows, block by block.

  Eight grid points; at point `t` the body multiplies the whole first gathered array by rows `2048 t …` of the second,
  transposed, and the product is columns `2048 t …` of the result.
-/
module

public import proofs.«01_k».proof.Proof.KernelIdealTile
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Pipeline.RegionsLoop
public import Idealize.ShloMosaic.Lib.Pipeline.RegionArrays
public import Idealize.ShloMosaic.Lib.Pipeline.ValueKit
public import Idealize.ShloMosaic.Lib.Ring
public import Idealize.ShloMosaic.Lib.Exec
public import Idealize.ShloMosaic.Lib.VecWindow

@[expose] public section

noncomputable section

namespace Cert.Proof.KernelIdealRun

open Cert.KernelIdeal Cert.KernelIdeal.Gen
open Cert.Proof.Streams

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The body, run once on any staging buffers -/

set_option maxHeartbeats 1000000 in
/-- The body on whole staging buffers: from the operands at `x0` and `x1` it leaves the product in the third. -/
theorem mm_run (c : Dev nD) (i : grid1.Coords) (arg1 : Memref sig .tc .vmem S1024x128 .f32) (harg1 : arg1.IsWhole) (arg2 : Memref sig .tc .vmem S2048x128 .f32) (harg2 : arg2.IsWhole) (arg3 : Memref sig .tc .vmem S1024x2048 .f32) (harg3 : arg3.IsWhole)
    (x0 : Vec F S1024x128 .f32) (x1 : Vec F S2048x128 .f32) (E : Set ℕ) (Q : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k1_pay1 x0 x1)) -∗ Q ⟨⟩))
      ⊢ wp frame (wpE (defs₀ (F := F)) 𝒱₀ (c : Thread nD τ) none) E (cc1__mm_body i arg1 harg1 arg2 harg2 arg3 harg3) Q := by
  simp only [cc1__mm_body_eq_skeleton]; unfold cc1__mm_body_skel
  unfold owns
  iintro ⟨⟨%f0, %hf0, H0⟩, ⟨%f1, %hf1, H1⟩, ⟨%d2, %f2, -, H2⟩, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact H2
  ipureintro
  exact (View.read_writes_full _ _ _ _ _).trans (congrArg₂ k1_pay1
    ((View.readAt_full _ _ _).trans hf0) ((View.readAt_full _ _ _).trans hf1))

/-! ## The values -/

/-- Rows `2048 b …` of an array of 16384 rows. -/
def rowsOf (v : Vec F S16384x128 .f32) (b : Fin 8) : Vec F S2048x128 .f32 := fun y =>
  v (ValueIdx.ix2 (⟨2048 * b.val + (y 0).val, by have h : (y 0).val < 2048 := (y 0).isLt; omega⟩ : Fin 16384) (y 1))

/-- The result: columns `2048 b …` are the product of `u` with rows `2048 b …` of `v`. -/
def scores (u : Vec F S1024x128 .f32) (v : Vec F S16384x128 .f32) : Vec F S1024x16384 .f32 := fun x =>
  k1_pay1 u (rowsOf v ⟨(x 1).val / 2048, by have h : (x 1).val < 16384 := (x 1).isLt; omega⟩)
    (ValueIdx.ix2 (x 0) (⟨(x 1).val % 2048, Nat.mod_lt _ (by decide)⟩ : Fin 2048))

/-! ## The proof data, at the contents the region is entered with -/

variable (V : (c : Dev nD) → (b : Ref sig .tc) → Buf (Elt F) ((c : Thread nD τ).loc b))

/-- Window `w`'s block at point `t`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the region needs nothing of: the scoped buffers it does not stage. -/
abbrev Φc (c : Dev nD) : sProp 𝕄 := Pipeline.scopedRest (Ix := HIx 1) (Name := ℕ) (U := UU) (Lvl := ℕ) (Val := Elt F) spec1 c

/-- The proof data: the arrays at `V`; after each point the operands' buffers at their blocks and the result's at their
    product; nothing owed; the waits recorded before the region at levels of at most 8. -/
def dat (c : Dev nD) : Dat τ (Elt F) (HIx 1) ℕ UU ℕ cfg1 c where
  A w := V c (Pipeline.arrRef spec1 w)
  after w t := match w with
    | ⟨0, _⟩ => iblk V c 0 t
    | ⟨1, _⟩ => iblk V c 1 t
    | ⟨2, _⟩ => k1_pay1 (iblk V c 0 t) (iblk V c 1 t)
  Φ _ := Φc c
  q _ := fullShare
  owed _ := 0
  recorded _ := {p | (K (F := F)).lev ((c : Thread nD τ), p.1) p.2 ≤ 8}

theorem A_eq (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = k1_pay1 (iblk V c 0 t) (iblk V c 1 t) := by dsimp only [dat]

/-- The operands' staging buffers hold their blocks when the body runs. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-! ## The body obligation -/

abbrev ms0 (t : Fin cfg1.N) : Memref sig .tc .vmem S1024x128 .f32 := win1_0.stage (cfg1.slots t 0)
abbrev ms1 (t : Fin cfg1.N) : Memref sig .tc .vmem S2048x128 .f32 := win1_1.stage (cfg1.slots t 1)
abbrev ms2 (t : Fin cfg1.N) : Memref sig .tc .vmem S1024x2048 .f32 := win1_2.stage (cfg1.slots t 2)

/-- What the body is called with at point `t`, and what it returns. -/
def bodyPre (c : Dev nD) (t : Fin cfg1.N) : sProp 𝕄 :=
  iprop((dat V c).Φ t.castSucc ∗ (dat V c).owesAt none t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))
def bodyPost (c : Dev nD) (t : Fin cfg1.N) : sProp 𝕄 :=
  iprop((dat V c).Φ t.succ ∗ (dat V c).owesAt none t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t))

theorem sound_body (c : Dev nD) (t : Fin cfg1.N) :
    bodyPre V c t ⊢ wp frame (wpE (defs₀ (F := F)) 𝒱₀ (c : Thread nD τ) none) Set.univ (bodyAt1 t) (fun _ => bodyPost V c t) := by
  unfold bodyPre bodyPost bodyAt1
  simp only [before_0, before_1]
  rw [show (dat V c).Φ t.succ = (dat V c).Φ t.castSucc from rfl,
    show (dat V c).owesAt none t.succ = (dat V c).owesAt none t.castSucc from rfl,
    after_0, after_1, after_2]
  iintro ⟨HΦ, Ho, ⟨%d0, H0⟩, ⟨%d1, H1⟩, ⟨%d2, H2⟩⟩
  iapply (mm_run c (grid1.coords t) _ _ _ _ _ _ (iblk V c 0 t) (iblk V c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The table's row at point `t`'s slots is the body. -/
theorem defs₀_row (t : Fin cfg1.N) :
    defs₀ (F := F) .tc cfg1.body (cfg1.bodyArgs t (cfg1.slots t)) = bodyAt1 t := rfl

theorem body_obligation (c : Dev nD) : BodyObligation (dat V c) (defs₀ (F := F)) 𝒱₀ none Set.univ := fun t => by
  rw [bigSep_W1, bigSep_W1, defs₀_row]
  exact triple_restated (sound_body V c t) rfl .rfl fun _ => .rfl

/-! ## The result's array after the region -/

/-- The block indices: the first operand's block is its whole array, the second's is row block `t`, the result's column block `t`. -/
theorem index_0 : ∀ t : Fin cfg1.N, win1_0.index t = ![0, 0] := (by decide +kernel : ∀ t : Fin grid1.N, _)
theorem index_1 : ∀ t : Fin cfg1.N, win1_1.index t = ![t.val, 0] := (by decide +kernel : ∀ t : Fin grid1.N, _)
theorem index_2 : ∀ t : Fin cfg1.N, win1_2.index t = ![0, t.val] := (by decide +kernel : ∀ t : Fin grid1.N, _)

theorem iblk_0 (c : Dev nD) (t : Fin cfg1.N) : iblk V c 0 t = V c main_v0_0 := by
  funext y
  blk_simp [iblk]
  refine congrArg (V c main_v0_0) (funext fun a => Fin.ext ?_)
  match a with
  | 0 => blk_simp [index_0]
  | 1 => blk_simp [index_0]

theorem iblk_1 (c : Dev nD) (t : Fin cfg1.N) : iblk V c 1 t = rowsOf (V c main_v0_1) t := by
  funext y
  blk_simp [iblk]
  refine congrArg (V c main_v0_1) (funext fun a => Fin.ext ?_)
  match a with
  | 0 => blk_simp [index_1]; show _ = 2048 * t.val + (y 0).val; simp; omega
  | 1 => blk_simp [index_1]; rfl

theorem arrAt_out (c : Dev nD) : (dat V c).arrAt 2 cfg1.N = scores (V c main_v0_0) (V c main_v0_1) := by
  refine (dat V c).arrAt_eq_of_covers 2 _ (by decide +kernel) fun t hf y => ?_
  blk_simp
  rw [after_2, iblk_0, iblk_1]
  have hy : (y 1).val < 2048 := (y 1).isLt
  have h0 : (((win1_2.blk t).view.emb y) 0).val = (y 0).val := by blk_simp [index_2]
  have h1 : (((win1_2.blk t).view.emb y) 1).val = 2048 * t.val + (y 1).val := by blk_simp [index_2]; simp; omega
  unfold scores
  refine congrArg₂ (fun b z => k1_pay1 (V c main_v0_0) (rowsOf (V c main_v0_1) b) z) (Fin.ext ?_) (funext fun a => Fin.ext ?_)
  · show t.val = (((win1_2.blk t).view.emb y) 1).val / 2048
    rw [h1]; omega
  · match a with
    | 0 => exact h0.symm
    | 1 => show (y 1).val = (((win1_2.blk t).view.emb y) 1).val % 2048; rw [h1]; omega

/-! ## The region -/

/-- The pipeline takes no prefetched table. -/
def adm : (p : Fin 1) → (pcfgs (F := F) p).Adm := fun p => (cfgs p).toPCfg_adm

/-- The one pipeline's proof data. -/
def pdats : (p : Fin 1) → (c : Dev nD) → Dat τ (Elt F) (HIx 1) ℕ UU ℕ (Pipeline.pin (pcfgs (F := F)) adm p) c
  | ⟨0, _⟩ => fun c => dat V c

variable (Vp : (c : Dev nD) → (b : Ref sig .tc) → Buf (Elt F) ((c : Thread nD τ).loc b))

set_option backward.isDefEq.respectTransparency.types false in
/-- The region over the arrays the TensorCore holds: entered with them at `V`, left with them at `Vp`, which is `V` but for
    the result; `owes` is at zero, every wait recorded at a level of at most 8. -/
def reg (hVp_out : ∀ c, Vp c main_v1 = scores (V c main_v0_0) (V c main_v0_1))
    (hVp_ne : ∀ c (b : Ref sig .tc), b ≠ main_v1 → Vp c b = V c b) :
    Pipeline.RegionSeg (pcfgs (F := F)) adm (pdats V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ _ _ 0 fun _ _ => rfl
  pre c := iprop(unscopedBufs c (V c) ∗ ∃ W, ⌜(K (F := F)).WBelow (c : Thread nD τ) W 8⌝ ∗ owes (c : Thread nD τ) (0 : CellTallies nD τ sig (HIx 1)) W)
  post c := iprop(unscopedBufs c (Vp c) ∗ ∃ W, ⌜(K (F := F)).WBelow (c : Thread nD τ) W 8⌝ ∗ owes (c : Thread nD τ) (0 : CellTallies nD τ sig (HIx 1)) W)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = Φc c from rfl]
    iintro ⟨-, -, Hr⟩; iexact Hr
  hout c := by
    rw [Pipeline.ownSems0_none, show (pdats V 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        fin_cases w
        · exact ((pdats V 0 c).arrAt_in 0 rfl _).trans (hVp_ne c main_v0_0 (by decide)).symm
        · exact ((pdats V 0 c).arrAt_in 1 rfl _).trans (hVp_ne c main_v0_1 (by decide)).symm
        · exact (arrAt_out V c).trans (hVp_out c).symm)
      (fun b hb => hVp_ne c b fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      rintro p hp
      rcases hW hp with h | ⟨w, s, rfl⟩
      · exact h
      · exact Nat.zero_le _
    iexact HO

end Cert.Proof.KernelIdealRun
-- ==== Proof.KernelIdealLaunch.lean ====
/-
  The launch: the program's run from any memory whose index lists name rows of the tables.

  The TensorCore holds the arrays whole and deals each of the thirty-two tasks its part of them (`whole_tasks`); the
  SparseCore call hands the parts out and takes them back with the gathered rows in the two results. The region of
  inner products then runs on the gathered arrays, and the program ends with the arguments as they were, the result at
  `scores` of the gathered rows, and every semaphore at zero (`run_main`).
-/
module

public import proofs.«01_k».proof.Proof.KernelIdealBody
public import proofs.«01_k».proof.Proof.KernelIdealRegion

@[expose] public section

noncomputable section

namespace Cert.Proof.KernelIdealRun

open Cert.KernelIdeal Cert.KernelIdeal.Gen
open Cert.Proof.Streams

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "qV" => (Memref.whole Cert.KernelIdeal.main_arg1_scv : Memref Cert.KernelIdeal.sig Kind.scVector Space.hbm Cert.KernelIdeal.S1024 EltTy.i32)
local notation "iV" => (Memref.whole Cert.KernelIdeal.main_arg2_scv : Memref Cert.KernelIdeal.sig Kind.scVector Space.hbm Cert.KernelIdeal.S16384 EltTy.i32)
local notation "utV" => (Memref.whole Cert.KernelIdeal.main_arg3_scv : Memref Cert.KernelIdeal.sig Kind.scVector Space.hbm Cert.KernelIdeal.S100000x128 EltTy.f32)
local notation "itV" => (Memref.whole Cert.KernelIdeal.main_arg4_scv : Memref Cert.KernelIdeal.sig Kind.scVector Space.hbm Cert.KernelIdeal.S100000x128 EltTy.f32)
local notation "uoV" => (Memref.whole Cert.KernelIdeal.main_v0_0_scv : Memref Cert.KernelIdeal.sig Kind.scVector Space.hbm Cert.KernelIdeal.S1024x128 EltTy.f32)
local notation "ioV" => (Memref.whole Cert.KernelIdeal.main_v0_1_scv : Memref Cert.KernelIdeal.sig Kind.scVector Space.hbm Cert.KernelIdeal.S16384x128 EltTy.f32)
local notation "s0V" => (Memref.whole Cert.KernelIdeal.cc0_scratch0 : Memref Cert.KernelIdeal.sig Kind.scVector Space.vmem Cert.KernelIdeal.S32 EltTy.i32)
local notation "s1V" => (Memref.whole Cert.KernelIdeal.cc0_scratch1 : Memref Cert.KernelIdeal.sig Kind.scVector Space.vmem Cert.KernelIdeal.S32x128 EltTy.f32)
local notation "s2V" => (Memref.whole Cert.KernelIdeal.cc0_scratch2 : Memref Cert.KernelIdeal.sig Kind.scVector Space.vmem Cert.KernelIdeal.S512 EltTy.i32)
local notation "s3V" => (Memref.whole Cert.KernelIdeal.cc0_scratch3 : Memref Cert.KernelIdeal.sig Kind.scVector Space.vmem Cert.KernelIdeal.S512x128 EltTy.f32)

variable (m : (ℓ : Loc nD τ sig) → Buf (Elt F) ℓ) (ρ : Dev nD → PrngReg)

theorem facts : (K (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## What the call's signals carry -/

theorem nCore_zero : (K (F := F)).nCore 0 = 2 := rfl
theorem nSub_zero : (K (F := F)).nSub 0 = 16 := rfl

/-- The task on subcore `i` of SparseCore `c`. -/
def wC (c : Fin 2) (i : Fin 16) : Fin 32 := ⟨2 * i.val + c.val, by omega⟩

/-- What the sixteen tasks of SparseCore `c` hold, their parts of the results at `u` and `v`. -/
def corePts (d : Dev nD) (u : Buf (Elt F) (uoLoc d)) (v : Buf (Elt F) (ioLoc d)) (c : Fin 2) : sProp 𝕄 :=
  bigSep Finset.univ fun i : Fin 16 => taskPts m d u v (wC c i)

instance corePts_storable (d : Dev nD) (u : Buf (Elt F) (uoLoc d)) (v : Buf (Elt F) (ioLoc d)) (c : Fin 2) :
    BI.Storable (upEmb : UEmb _ 𝕄) (corePts m d u v c) := by unfold corePts; infer_instance

/-- The call takes each SparseCore's parts and each task its own, and they bring them back with the gathered rows in the
    results. -/
def P : (K (F := F)).Pay (nD := nD) (Val := Elt F) (Name := ℕ) (U := UU) where
  st := fun q d c => match q with | 0 => corePts m d (m (uoLoc d)) (m (ioLoc d)) (Fin.cast nCore_zero c)
  dn := fun q d c => match q with | 0 => corePts m d (uVal m d) (iVal m d) (Fin.cast nCore_zero c)
  go := fun q d c i => match q with
    | 0 => taskPts m d (m (uoLoc d)) (m (ioLoc d)) (wC (Fin.cast nCore_zero c) (Fin.cast nSub_zero i))
  td := fun q d c i => match q with
    | 0 => taskPts m d (uVal m d) (iVal m d) (wC (Fin.cast nCore_zero c) (Fin.cast nSub_zero i))
  x := fun _ _ => iprop(emp)

instance P_storable : (P (F := F) m).IsStorable where
  st q d c := match q with | 0 => corePts_storable m d (m (uoLoc d)) (m (ioLoc d)) (Fin.cast nCore_zero c)
  dn q d c := match q with | 0 => corePts_storable m d (uVal m d) (iVal m d) (Fin.cast nCore_zero c)
  go q d c i := match q with
    | 0 => taskPts_storable m d (m (uoLoc d)) (m (ioLoc d)) (wC (Fin.cast nCore_zero c) (Fin.cast nSub_zero i))
  td q d c i := match q with
    | 0 => taskPts_storable m d (uVal m d) (iVal m d) (wC (Fin.cast nCore_zero c) (Fin.cast nSub_zero i))

/-! ## The task's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__gather_body (coordsV c s)
          qV (Memref.isWhole_whole _) iV (Memref.isWhole_whole _) utV (Memref.isWhole_whole _) itV (Memref.isWhole_whole _)
          uoV (Memref.isWhole_whole _) ioV (Memref.isWhole_whole _) s0V (Memref.isWhole_whole _) s1V (Memref.isWhole_whole _)
          s2V (Memref.isWhole_whole _) s3V (Memref.isWhole_whole _) cc0_scratch4 cc0_scratch5 cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## The arrays split into the tasks' parts, and join again -/

/-- The device's arrays that the call uses, whole, the results at `u` and `v`. -/
def wholePts (d : Dev nD) (u : Buf (Elt F) (uoLoc d)) (v : Buf (Elt F) (ioLoc d)) : sProp 𝕄 :=
  iprop((qLoc d ↦{fullShare} m (qLoc d)) ∗ (iLoc d ↦{fullShare} m (iLoc d))
    ∗ (utLoc d ↦{fullShare} m (utLoc d)) ∗ (itLoc d ↦{fullShare} m (itLoc d))
    ∗ (uoLoc d ↦{fullShare} u) ∗ (ioLoc d ↦{fullShare} v))

omit [FloatOps F] in
theorem q_parts (d : Dev nD) (f : Buf (Elt F) (qLoc d)) :
    (qLoc d ↦{fullShare} f : sProp 𝕄) = bigSep Finset.univ fun w : Fin 32 => qLoc d ↦[qSet w]{fullShare} f := by
  rw [← pointsTo_biUnion Finset.univ (ℓ := qLoc d) qSet (fun i _ j _ h => Rect.part_disjoint qdiv h), Rect.biUnion_part qdiv]; try rfl
omit [FloatOps F] in
theorem i_parts (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet (fun i _ j _ h => Rect.part_disjoint idiv h), Rect.biUnion_part idiv]; try rfl
omit [FloatOps F] in
theorem uo_parts (d : Dev nD) (f : Buf (Elt F) (uoLoc d)) :
    (uoLoc d ↦{fullShare} f : sProp 𝕄) = bigSep Finset.univ fun w : Fin 32 => uoLoc d ↦[uoSet w]{fullShare} f := by
  rw [← pointsTo_biUnion Finset.univ (ℓ := uoLoc d) uoSet (fun i _ j _ h => Rect.part_disjoint uodiv h), Rect.biUnion_part uodiv]; try rfl
omit [FloatOps F] in
theorem io_parts (d : Dev nD) (f : Buf (Elt F) (ioLoc d)) :
    (ioLoc d ↦{fullShare} f : sProp 𝕄) = bigSep Finset.univ fun w : Fin 32 => ioLoc d ↦[ioSet w]{fullShare} f := by
  rw [← pointsTo_biUnion Finset.univ (ℓ := ioLoc d) ioSet (fun i _ j _ h => Rect.part_disjoint iodiv h), Rect.biUnion_part iodiv]; try rfl

/-- The tasks by SparseCore and subcore. -/
def taskEquiv : Fin 2 × Fin 16 ≃ Fin 32 where
  toFun p := wC p.1 p.2
  invFun w := (⟨w.val % 2, by omega⟩, ⟨w.val / 2, by omega⟩)
  left_inv p := by
    obtain ⟨c, i⟩ := p
    refine Prod.ext (Fin.ext ?_) (Fin.ext ?_)
    · show (2 * i.val + c.val) % 2 = c.val; omega
    · show (2 * i.val + c.val) / 2 = i.val; omega
  right_inv w := Fin.ext (by show 2 * (w.val / 2) + w.val % 2 = w.val; omega)

omit [FloatOps F] in
/-- The arrays whole are the tasks' parts, SparseCore by SparseCore. -/
theorem whole_tasks (d : Dev nD) (u : Buf (Elt F) (uoLoc d)) (v : Buf (Elt F) (ioLoc d)) :
    wholePts m d u v = (bigSep Finset.univ fun c : Fin 2 => corePts m d u v c : sProp 𝕄) := by
  unfold wholePts corePts
  rw [q_parts, i_parts, uo_parts, io_parts, pointsTo_piecesOf Finset.univ (m (utLoc d)) (by decide : 0 < 32) fullShare,
    pointsTo_piecesOf Finset.univ (m (itLoc d)) (by decide : 0 < 32) fullShare,
    ← bigSep_sep', ← bigSep_sep', ← bigSep_sep', ← bigSep_sep', ← bigSep_sep',
    ← bigSep_univ_prod (fun p : Fin 2 × Fin 16 => taskPts m d u v (wC p.1 p.2))]
  exact bigSep_univ_equiv taskEquiv (fun w => taskPts m d u v w)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's parts are its tasks'. -/
theorem vecSplit : (K (F := F)).VecSplit' (P m) 0 := by
  intro d c
  show corePts m d (m (uoLoc d)) (m (ioLoc d)) (Fin.cast nCore_zero c) ⊢ |={Set.univ}=> iprop(
      (bigSep Finset.univ fun i : Fin ((K (F := F)).nSub 0) =>
        taskPts m d (m (uoLoc d)) (m (ioLoc d)) (wC (Fin.cast nCore_zero c) (Fin.cast nSub_zero i)))
      ∗ ((bigSep Finset.univ fun i : Fin ((K (F := F)).nSub 0) =>
          taskPts m d (uVal m d) (iVal m d) (wC (Fin.cast nCore_zero c) (Fin.cast nSub_zero i)))
          -∗ corePts m d (uVal m d) (iVal m d) (Fin.cast nCore_zero c)))
  rw [bigSep_tasks (F := F) (fun i => taskPts m d (m (uoLoc d)) (m (ioLoc d)) (wC (Fin.cast nCore_zero c) i)),
    bigSep_tasks (F := F) (fun i => taskPts m d (uVal m d) (iVal m d) (wC (Fin.cast nCore_zero c) i))]
  unfold corePts
  iintro H; imodintro
  isplitl [H]; · iexact H
  iintro H; iexact H

theorem st0_eq (d : Dev nD) : (bigSep Finset.univ fun c : Fin ((K (F := F)).nCore 0) => (P m).st 0 d c) = wholePts m d (m (uoLoc d)) (m (ioLoc d)) :=
  (bigSep_cores (F := F) (fun c => corePts m d (m (uoLoc d)) (m (ioLoc d)) c)).trans (whole_tasks m d _ _).symm
theorem dn0_eq (d : Dev nD) : (bigSep Finset.univ fun c : Fin ((K (F := F)).nCore 0) => (P m).dn 0 d c) = wholePts m d (uVal m d) (iVal m d) :=
  (bigSep_cores (F := F) (fun c => corePts m d (uVal m d) (iVal m d) c)).trans (whole_tasks m d _ _).symm

/-! ## The launch element of the ghost state -/

/-- Where the staging buffers' rounds stand. -/
abbrev EP : Emb UP (MT nD τ sig (HIx 1) (Elt F) ℕ UU ℕ) := (Emb.inl : Emb UP (UP × Counters)).trans embR

def u₀ : UU := (initOf (K (F := F)).hsCells (K (F := F)).hsToks,
  (initOf (Pipeline.cells cfgs cellOf_inj) (Pipeline.launchToks cfgs cellOf_inj), 1))

/-- What the region's staging buffers need of the ghost state on device `d`. -/
abbrev G (d : Dev nD) : sProp 𝕄 :=
  iprop(Pipeline.cellsGhost (Pipeline.pin (pcfgs (F := F)) adm) EP 0 d ∗ Pipeline.toksInit (Pipeline.pin (pcfgs (F := F)) adm) EP 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells cfgs cellOf_inj) (Pipeline.launchToks cfgs cellOf_inj), 1) : UP × Counters)) $$ Hu
  icases H with ⟨HH, HR⟩
  ihave H := (own_pair_emb (embR : Emb (UP × Counters) 𝕄) (initOf (Pipeline.cells cfgs cellOf_inj) (Pipeline.launchToks cfgs cellOf_inj)) (1 : Counters)) $$ HR
  icases H with ⟨HP, -⟩
  imod (Pipeline.fund_ghost (nD := nD) (τ := τ) cfgs (EP (F := F)) cellOf_inj) $$ HP with ⟨Hg, Ht⟩
  imodintro
  isplitl [HH]; · iexact HH
  isplitl [Hg Ht]
  · rw [bigSep_sep']
    isplitl [Hg]
    · rw [show (bigSep Finset.univ fun d : Dev nD => bigSep Finset.univ fun p : Fin 1 => Pipeline.cellsGhost cfgs (EP (F := F)) p d)
        = bigSep Finset.univ fun d : Dev nD => Pipeline.cellsGhost (Pipeline.pin (pcfgs (F := F)) adm) EP 0 d from
        bigSep_congr fun d _ => bigSep_univ_of_subsingleton (0 : Fin 1)]
      exact Entails.of_eq rfl
    · rw [show (bigSep Finset.univ fun d : Dev nD => bigSep Finset.univ fun p : Fin 1 => Pipeline.toksInit cfgs (EP (F := F)) p d)
        = bigSep Finset.univ fun d : Dev nD => Pipeline.toksInit (Pipeline.pin (pcfgs (F := F)) adm) EP 0 d from
        bigSep_congr fun d _ => bigSep_univ_of_subsingleton (0 : Fin 1)]
      exact Entails.of_eq rfl
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The main program -/

/-- The memory around the region: as at launch, with the gathered rows in the call's two results. -/
def VV (d : Dev nD) (b : Ref sig .tc) : Buf (Elt F) ((d : Thread nD τ).loc b) :=
  Function.update (Function.update (fun b => m ((d : Thread nD τ).loc b)) main_v0_0 (uVal m d)) main_v0_1 (iVal m d) b

/-- The memory after the region: the inner products in the last result. -/
def VP (d : Dev nD) (b : Ref sig .tc) : Buf (Elt F) ((d : Thread nD τ).loc b) :=
  Function.update (VV m d) main_v1 (scores (VV m d main_v0_0) (VV m d main_v0_1)) b

theorem VP_out (d : Dev nD) : VP m d main_v1 = scores (VV m d main_v0_0) (VV m d main_v0_1) := Function.update_self _ _ _
theorem VP_ne (d : Dev nD) (b : Ref sig .tc) (h : b ≠ main_v1) : VP m d b = VV m d b := Function.update_of_ne h _ _
omit [FloatOps F] in
theorem VV_ne (d : Dev nD) (b : Ref sig .tc) (h0 : b ≠ main_v0_0) (h1 : b ≠ main_v0_1) : VV m d b = m ((d : Thread nD τ).loc b) :=
  (Function.update_of_ne h1 _ _).trans (Function.update_of_ne h0 _ _)
omit [FloatOps F] in
theorem VV_u (d : Dev nD) : VV m d main_v0_0 = uVal m d :=
  (Function.update_of_ne (show (main_v0_0 : Ref sig .tc) ≠ main_v0_1 by decide) _ _).trans (Function.update_self _ _ _)
omit [FloatOps F] in
theorem VV_i (d : Dev nD) : VV m d main_v0_1 = iVal m d := Function.update_self _ _ _

theorem unscopedBufs_eq (d : Dev nD) (W : (b : Ref sig .tc) → Buf (Elt F) ((d : Thread nD τ).loc b)) :
    (unscopedBufs d W : sProp 𝕄)
      = iprop(((d : Thread nD τ).loc main_arg0 ↦{fullShare} W main_arg0) ∗ ((d : Thread nD τ).loc main_arg1 ↦{fullShare} W main_arg1)
        ∗ ((d : Thread nD τ).loc main_arg2 ↦{fullShare} W main_arg2) ∗ ((d : Thread nD τ).loc main_arg3 ↦{fullShare} W main_arg3)
        ∗ ((d : Thread nD τ).loc main_arg4 ↦{fullShare} W main_arg4) ∗ ((d : Thread nD τ).loc main_v0_0 ↦{fullShare} W main_v0_0)
        ∗ ((d : Thread nD τ).loc main_v0_1 ↦{fullShare} W main_v0_1) ∗ ((d : Thread nD τ).loc main_v1 ↦{fullShare} W main_v1)) := by
  unfold unscopedBufs
  rw [show (Finset.univ.filter fun b : Ref sig .tc => ¬ b.isScoped)
      = {main_arg0, main_arg1, main_arg2, main_arg3, main_arg4, main_v0_0, main_v0_1, main_v1} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- What the program leaves: every array as `VP` has it. -/
abbrev FIN (d : Dev nD) : sProp 𝕄 := unscopedBufs d (VP m d)

/-- The arrays the call returns, with the two it does not use, are the memory `VV`. -/
theorem whole_VV (d : Dev nD) :
    (iprop(((d : Thread nD τ).loc main_arg0 ↦{fullShare} m ((d : Thread nD τ).loc main_arg0))
      ∗ ((d : Thread nD τ).loc main_v1 ↦{fullShare} m ((d : Thread nD τ).loc main_v1)) ∗ wholePts m d (uVal m d) (iVal m d)) : sProp 𝕄)
      ⊢ unscopedBufs d (VV m d) := by
  rw [unscopedBufs_eq, VV_u, VV_i, VV_ne m d main_arg0 (by decide) (by decide), VV_ne m d main_arg1 (by decide) (by decide),
    VV_ne m d main_arg2 (by decide) (by decide), VV_ne m d main_arg3 (by decide) (by decide),
    VV_ne m d main_arg4 (by decide) (by decide), VV_ne m d main_v1 (by decide) (by decide)]
  unfold wholePts
  iintro ⟨H0, H7, H1, H2, H3, H4, H5, H6⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem reg_pre (d : Dev nD) : (reg (VV m) (VP m) (VP_out m) (VP_ne m)).pre d
    = iprop(unscopedBufs d (VV m d) ∗ ∃ W, ⌜(K (F := F)).WBelow (T d) W 8⌝ ∗ owes (T d) 0 W) := rfl
theorem reg_post (d : Dev nD) : (reg (VV m) (VP m) (VP_out m) (VP_ne m)).post d
    = iprop(unscopedBufs d (VP m d) ∗ ∃ W, ⌜(K (F := F)).WBelow (T d) W 8⌝ ∗ owes (T d) 0 W) := rfl

set_option maxRecDepth 16384 in
/-- The main program on device `d`: the call gathers, the region takes the inner products. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]; simp only [main, wp_bind, wp_pure]
  iintro ⟨#Hctx, Hst, ⟨Hb, ⟨H0, H1, H2, H3, H4, H5, H6, H7⟩, Hts, -⟩, HG⟩
  iapply ((K (F := F)).wp_run (D (F := F)) 𝒱 (EH := EH) (P := P m) κ d 0) $$ [Hst Hb H0 H1 H2 H3 H4 H5 H6 H7 Hts HG]
  isplitr; · iexact Hctx
  isplitl [Hst]; · iexact Hst
  isplitl [H1 H2 H3 H4 H5 H6]
  · rw [st0_eq]; unfold wholePts
    isplitl [H1]; · iexact H1
    isplitl [H2]; · iexact H2
    isplitl [H3]; · iexact H3
    isplitl [H4]; · iexact H4
    isplitl [H5]; · iexact H5
    iexact H6
  iintro ⟨Hst, Hdn⟩
  ihave Hdn := (Entails.of_eq (dn0_eq m d)) $$ Hdn
  ihave Hbufs := (whole_VV m d) $$ [H0 H7 Hdn]
  · isplitl [H0]; · iexact H0
    isplitl [H7]; · iexact H7
    iexact Hdn
  unfold SparseCore.Cfg.tcSt
  icases Hst with ⟨⟨%W, %hW, HO⟩, Hst⟩
  ihave #Hlev := (SparseCore.Cfg.ctx_levAts (K := K (F := F)) (EH := EH) (P := P m) κ) $$ Hctx
  icases HG with ⟨Hcg, Htk⟩
  iapply ((K (F := F)).wp_liftProg (D (F := F)) 𝒱 (T d) Set.univ none (.op (.customCall (Pipeline.entry 0) ()) .ret) _)
  iapply (Pipeline.RegionSeg.wp (pcfgs (F := F)) adm (pdats (VV m)) none cellOf_inj EP defs₀ 𝒱₀ (K (F := F)).L (K (F := F)).lev
    (reg (VV m) (VP m) (VP_out m) (VP_ne m)) d none (fun u hu => nomatch hu) .ret _) $$ [Hb Hbufs HO Hst Hts Hcg Htk]
  isplitl [Hst Hts]
  · iintro ⟨Hb, Hpost⟩
    ihave Hpost := (Entails.of_eq (reg_post m d)) $$ Hpost
    icases Hpost with ⟨Hbufs, %W', %hW', HO⟩
    sl_step
    imodintro
    isplitl [HO Hst]
    · isplitl [HO]
      · iexists W'; isplitr
        · ipureintro; exact hW'
        · iapply (Entails.of_eq (congrArg (fun O => owes (T d) O W') ((K (F := F)).Otc_end d (le_refl 1)).symm)); iexact HO
      · iexact Hst
    isplitl [Hbufs]; · iexact Hbufs
    isplitl [Hb]; · iexact Hb
    iexact Hts
  isplitl [Hb]; · iexact Hb
  isplitl [Hbufs HO]
  · iapply (Entails.of_eq (reg_pre m d).symm)
    isplitl [Hbufs]; · iexact Hbufs
    iexists W
    isplitr
    · ipureintro; exact hW
    · iapply (Entails.of_eq (congrArg (fun O => owes (T d) O W) ((K (F := F)).Otc_end d (le_refl 1)))); iexact HO
  isplitr; · iexact Hlev
  isplitl [Hcg]; · iexact Hcg
  iexact Htk

/-! ## The run -/

/-- The memory's values for the claim: the arguments as at launch, the result at the inner products of the gathered rows. -/
def Values (d : Dev nD) (f : (ℓ : Loc nD τ sig) → Buf (Elt F) ℓ) : Prop :=
  f ((d : Thread nD τ).loc main_v1) = scores (uVal m d) (iVal m d)
    ∧ f ((d : Thread nD τ).loc main_arg0) = m ((d : Thread nD τ).loc main_arg0)
    ∧ f ((d : Thread nD τ).loc main_arg1) = m ((d : Thread nD τ).loc main_arg1)
    ∧ f ((d : Thread nD τ).loc main_arg2) = m ((d : Thread nD τ).loc main_arg2)
    ∧ f ((d : Thread nD τ).loc main_arg3) = m ((d : Thread nD τ).loc main_arg3)
    ∧ f ((d : Thread nD τ).loc main_arg4) = m ((d : Thread nD τ).loc main_arg4)

theorem VP_arg (d : Dev nD) (b : Ref sig .tc) (h : b ≠ main_v1) (h0 : b ≠ main_v0_0) (h1 : b ≠ main_v0_1) :
    VP m d b = m ((d : Thread nD τ).loc b) := (VP_ne m d b h).trans (VV_ne m d b h0 h1)
theorem VP_scores (d : Dev nD) : VP m d main_v1 = scores (uVal m d) (iVal m d) := by rw [VP_out, VV_u, VV_i]

set_option maxRecDepth 16384 in
/-- The final state has the values that the arrays are held at. -/
theorem hfin (d : Dev nD) (s' : Phys nD τ sig (Elt F)) : iprop(FIN m d ∗ SI s') ⊢ (⌜Values m d s'.mem.mem⌝ : sProp 𝕄) := by
  unfold FIN
  rw [unscopedBufs_eq]
  iintro ⟨⟨H0, H1, H2, H3, H4, -, -, H7⟩, HSI⟩
  ihave H := (persistent_entails_right (SI_pointsTo_agree (st := s') (ℓ := (d : Thread nD τ).loc main_arg0) (I := Finset.univ) (q := fullShare) (f := VP m d main_arg0))) $$ [HSI H0]
  · isplitl [HSI] <;> iassumption
  icases H with ⟨%h0, HSI, -⟩
  ihave H := (persistent_entails_right (SI_pointsTo_agree (st := s') (ℓ := (d : Thread nD τ).loc main_arg1) (I := Finset.univ) (q := fullShare) (f := VP m d main_arg1))) $$ [HSI H1]
  · isplitl [HSI] <;> iassumption
  icases H with ⟨%h1, HSI, -⟩
  ihave H := (persistent_entails_right (SI_pointsTo_agree (st := s') (ℓ := (d : Thread nD τ).loc main_arg2) (I := Finset.univ) (q := fullShare) (f := VP m d main_arg2))) $$ [HSI H2]
  · isplitl [HSI] <;> iassumption
  icases H with ⟨%h2, HSI, -⟩
  ihave H := (persistent_entails_right (SI_pointsTo_agree (st := s') (ℓ := (d : Thread nD τ).loc main_arg3) (I := Finset.univ) (q := fullShare) (f := VP m d main_arg3))) $$ [HSI H3]
  · isplitl [HSI] <;> iassumption
  icases H with ⟨%h3, HSI, -⟩
  ihave H := (persistent_entails_right (SI_pointsTo_agree (st := s') (ℓ := (d : Thread nD τ).loc main_arg4) (I := Finset.univ) (q := fullShare) (f := VP m d main_arg4))) $$ [HSI H4]
  · isplitl [HSI] <;> iassumption
  icases H with ⟨%h4, HSI, -⟩
  ihave H := (SI_pointsTo_agree (st := s') (ℓ := (d : Thread nD τ).loc main_v1) (I := Finset.univ) (q := fullShare) (f := VP m d main_v1)) $$ [HSI H7]
  · isplitl [HSI] <;> iassumption
  icases H with %h7
  ipureintro
  exact ⟨(funext fun i => h7 i (Finset.mem_univ i)).trans (VP_scores m d),
    (funext fun i => h0 i (Finset.mem_univ i)).trans (VP_arg m d main_arg0 (by decide) (by decide) (by decide)),
    (funext fun i => h1 i (Finset.mem_univ i)).trans (VP_arg m d main_arg1 (by decide) (by decide) (by decide)),
    (funext fun i => h2 i (Finset.mem_univ i)).trans (VP_arg m d main_arg2 (by decide) (by decide) (by decide)),
    (funext fun i => h3 i (Finset.mem_univ i)).trans (VP_arg m d main_arg3 (by decide) (by decide) (by decide)),
    (funext fun i => h4 i (Finset.mem_univ i)).trans (VP_arg m d main_arg4 (by decide) (by decide) (by decide))⟩

/-- The program's postcondition: `Values` on every device, and every semaphore at zero. -/
def QC : PUnit × MemSt nD τ sig (Elt F) → Prop := fun r => (∀ c : Dev nD, Values m c r.2.mem) ∧ r.2.sem = fun _ => 0

/-- Every weakly fair run, from any memory whose index lists name rows of the tables, ends with the arguments as they
    were, the result at the inner products of the gathered rows, and every semaphore at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => G d) (FIN m) (u₀ (F := F)) (sep_elim_left.trans (hu₀ m)) (hmain m ρ) (fun d s => Values m d s.mem.mem) (hfin m) (QC m) (fun _ h hz => ⟨h, hz⟩)

end Cert.Proof.KernelIdealRun
-- ==== Proof.Taken.lean ====
/-
  The reference's two halves, index by index: rows taken from a table by a list of row numbers, and inner products.

  `gather_rows_apply` reads a gather of rows at an index. `taken_apply` reads what `jnp.take` computes over it: negative
  numbers counted from the end, the rows gathered, and a row whose number is out of range replaced. When every number
  of the list is a row of the table it is that row (`rowAt`). `IntOp` facts on small words come first.
-/
module

public import proofs.«01_k».proof.Proof.Gathered
public import Idealize.ShloMosaic.Lib.ReduceAll
public import Idealize.ShloMosaic.Lib.ValueIdxCore
public import Idealize.ShloMosaic.Lib.Pipeline.Value

@[expose] public section

noncomputable section

namespace Cert.Proof.Taken

open Idealize.ShloMosaic Idealize.ShloMosaic.ValueIdx
open Cert.Proof.Streams (rowAt rowAt_val)

/-! ## Words below the number of rows -/

/-- A word below the number of rows has its value as a signed word. -/
theorem toInt_of_row {v : BitVec 32} (h : v.toNat < 100000) : v.toInt = v.toNat := by
  rw [BitVec.toInt_eq_toNat_cond, if_pos (by omega)]

/-- A word below the number of rows is not negative. -/
theorem row_not_neg {v : BitVec 32} (h : v.toNat < 100000) : IntOp.cmpi .slt v 0#32 = 0#1 := by
  have e := toInt_of_row h
  have z : (0#32 : BitVec 32).toInt = 0 := by decide
  show BitVec.ofBool (v.slt 0#32) = 0#1
  rw [BitVec.slt_eq_decide, decide_eq_false (by omega)]; rfl

/-- A word below the number of rows is at least zero. -/
theorem row_nonneg {v : BitVec 32} (h : v.toNat < 100000) : IntOp.cmpi .sge v 0#32 = 1#1 := by
  have e := toInt_of_row h
  have z : (0#32 : BitVec 32).toInt = 0 := by decide
  show BitVec.ofBool ((0#32 : BitVec 32).sle v) = 1#1
  rw [BitVec.sle_eq_decide, decide_eq_true (by omega)]; rfl

/-- A word below the number of rows is at most the last row. -/
theorem row_le_last {v : BitVec 32} (h : v.toNat < 100000) : IntOp.cmpi .sle v 99999#32 = 1#1 := by
  have e := toInt_of_row h
  have z : (99999#32 : BitVec 32).toInt = 99999 := by decide
  show BitVec.ofBool (v.sle 99999#32) = 1#1
  rw [BitVec.sle_eq_decide, decide_eq_true (by omega)]; rfl

/-- A word that, read signed, is at least zero and below the number of rows has a value below it. -/
theorem row_of_cmp {v : BitVec 32} (h0 : IntOp.cmpi .sge v 0#32 = 1#1) (h1 : IntOp.cmpi .slt v 100000#32 = 1#1) :
    v.toNat < 100000 := by
  have z : (0#32 : BitVec 32).toInt = 0 := by decide
  have n : (100000#32 : BitVec 32).toInt = 100000 := by decide
  have one : ∀ p : Bool, BitVec.ofBool p = 1#1 → p = true := by intro p; cases p <;> decide
  have a := one _ h0
  have b := one _ h1
  simp only [BitVec.sle_eq_decide, BitVec.slt_eq_decide, decide_eq_true_eq, z, n] at a b
  rw [BitVec.toInt_eq_toNat_cond] at a b
  split at a <;> omega

/-! ## A gather of rows at an index -/

/-- The dimension numbers of a gather of whole rows: a table of 100000 rows of 128, a column of `n` row numbers. -/
abbrev rowsDims (n : ℕ)
    (wf : GatherDims.WF ⟨2, ![100000, 128]⟩ ⟨2, ![n, 1]⟩ ⟨2, ![n, 128]⟩ [1] [0] [] [0] [] 1 ![1, 128]) :
    GatherDims ⟨2, ![100000, 128]⟩ ⟨2, ![n, 1]⟩ ⟨2, ![n, 128]⟩ where
  offsetDims := [1]
  collapsedSliceDims := [0]
  operandBatchingDims := []
  startIndicesBatchingDims := []
  startIndexMap := [0]
  indexVectorDim := 1
  sliceSizes := ![1, 128]
  wf := wf

/-- The gathered array at `(r, c)`: entry `c` of the row that number `r` names, the number read signed and clamped into
    the table. -/
theorem gather_rows_apply {α : Type} {n : ℕ}
    (wf : GatherDims.WF ⟨2, ![100000, 128]⟩ ⟨2, ![n, 1]⟩ ⟨2, ![n, 128]⟩ [1] [0] [] [0] [] 1 ![1, 128])
    (x : (⟨2, ![100000, 128]⟩ : Shape).Idx → α) (idx : IVec ⟨2, ![n, 1]⟩ 32) (r : Fin n) (c : Fin 128) :
    Host.gather (rowsDims n wf) x idx (ix2 r c)
      = x (ix2 ⟨min (idx (ix2 r (0 : Fin 1))).toInt.toNat (100000 - 1), by omega⟩ c) := by
  unfold Host.gather
  congr 1
  funext a
  refine Fin.ext ?_
  show (rowsDims n wf).start (ix2 r c) idx a + (rowsDims n wf).batchCoord (ix2 r c) a
      + (rowsDims n wf).offCoord (ix2 r c) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims n wf).startIndexMap from List.mem_singleton.mpr rfl)]
    have hsi : (rowsDims n wf).siIdx (ix2 r c) ⟨List.idxOf (0 : Fin 2) (rowsDims n wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  · unfold GatherDims.start
    rw [dif_neg (show (1 : Fin 2) ∉ (rowsDims n wf).startIndexMap by simp)]
    simp only [Nat.add_zero, Nat.zero_add]
    rfl

/-! ## `jnp.take` at an index -/

section Take
variable {F : FTy → Type} [FloatOps F] {n : ℕ}

/-- The row numbers as `jnp.take` wraps them, negative ones counted from the end. -/
abbrev wrapped (q : IVec ⟨1, ![n]⟩ 32) (b : (⟨0, ![]⟩ : Shape).BroadcastsInDim ⟨1, ![n]⟩ ![]) : IVec ⟨1, ![n]⟩ 32 :=
  select (cmpi .slt q (broadcastInDim ⟨1, ![n]⟩ ![] b (constantI ⟨0, ![]⟩ 32 0#32)))
    (addi q (broadcastInDim ⟨1, ![n]⟩ ![] b (constantI ⟨0, ![]⟩ 32 100000#32))) q

/-- A list of rows of the table wraps to itself. -/
theorem wrapped_eq (q : IVec ⟨1, ![n]⟩ 32) (hq : ∀ j, (q j).toNat < 100000) (b) : wrapped q b = q := by
  funext j
  show Scalar.select (IntOp.cmpi .slt (q j) 0#32) _ (q j) = q j
  rw [row_not_neg (hq j)]; rfl

/-- The numbers as a column: entry `(r, 0)` is number `r`. -/
theorem column_apply (q : IVec ⟨1, ![n]⟩ 32) (b : (⟨1, ![n]⟩ : Shape).BroadcastsInDim ⟨2, ![n, 1]⟩ ![0]) (y : (⟨2, ![n, 1]⟩ : Shape).Idx) :
    broadcastInDim ⟨2, ![n, 1]⟩ ![0] b q y = q (ix1 ⟨(y 0).val, idx2_lt0 y⟩) := by
  refine broadcastInDim_apply _ b q y _ fun a => ?_
  obtain rfl : a = 0 := Subsingleton.elim _ _
  show (y 0).val = if n = 1 then 0 else (y 0).val
  split
  · have := idx2_lt0 y; omega
  · rfl

/-- **`jnp.take` of rows, every number a row of the table, at `(r, c)`**: entry `c` of the row that number `r` names. -/
theorem taken_apply (q : IVec ⟨1, ![n]⟩ 32) (hq : ∀ j, (q j).toNat < 100000) (x : FVec F ⟨2, ![100000, 128]⟩ .f32)
    (z : FVec F ⟨2, ![n, 128]⟩ .f32) (b0 : (⟨0, ![]⟩ : Shape).BroadcastsInDim ⟨1, ![n]⟩ ![])
    (b1 : (⟨1, ![n]⟩ : Shape).BroadcastsInDim ⟨2, ![n, 1]⟩ ![0]) (b2 : (⟨0, ![]⟩ : Shape).BroadcastsInDim ⟨2, ![n, 1]⟩ ![])
    (b3 : (⟨2, ![1, 1]⟩ : Shape).BroadcastsInDim ⟨2, ![n, 1]⟩ ![0, 1]) (b4 : (⟨1, ![1]⟩ : Shape).BroadcastsInDim ⟨2, ![1, 1]⟩ ![1])
    (b5 : (⟨1, ![n]⟩ : Shape).BroadcastsInDim ⟨2, ![n, 128]⟩ ![0])
    (hr : (⟨2, ![n, 1]⟩ : Shape).ReducesTo [1] ⟨1, ![n]⟩) (hu : 0 < (⟨0, ![]⟩ : Shape).numel)
    (wf : GatherDims.WF ⟨2, ![100000, 128]⟩ ⟨2, ![n, 1]⟩ ⟨2, ![n, 128]⟩ [1] [0] [] [0] [] 1 ![1, 128]) (r : Fin n) (c : Fin 128) :
    select (broadcastInDim ⟨2, ![n, 128]⟩ ![0] b5 (Host.reduce IntOp.andi
        (andi (cmpi .sge (broadcastInDim ⟨2, ![n, 1]⟩ ![0] b1 (wrapped q b0)) (broadcastInDim ⟨2, ![n, 1]⟩ ![] b2 (constantI ⟨0, ![]⟩ 32 0#32)))
          (cmpi .sle (broadcastInDim ⟨2, ![n, 1]⟩ ![0] b1 (wrapped q b0))
            (broadcastInDim ⟨2, ![n, 1]⟩ ![0, 1] b3 (broadcastInDim ⟨2, ![1, 1]⟩ ![1] b4 (constantI ⟨1, ![1]⟩ 32 99999#32)))))
        (constantI ⟨0, ![]⟩ 1 1#1) hr hu))
      (Host.gather (rowsDims n wf) x (broadcastInDim ⟨2, ![n, 1]⟩ ![0] b1 (wrapped q b0))) z (ix2 r c)
      = x (ix2 (rowAt (q (ix1 r))) c) := by
  rw [wrapped_eq q hq]
  have hall : ∀ y : (⟨2, ![n, 1]⟩ : Shape).Idx,
      (andi (cmpi .sge (broadcastInDim ⟨2, ![n, 1]⟩ ![0] b1 q) (broadcastInDim ⟨2, ![n, 1]⟩ ![] b2 (constantI ⟨0, ![]⟩ 32 0#32)))
        (cmpi .sle (broadcastInDim ⟨2, ![n, 1]⟩ ![0] b1 q)
          (broadcastInDim ⟨2, ![n, 1]⟩ ![0, 1] b3 (broadcastInDim ⟨2, ![1, 1]⟩ ![1] b4 (constantI ⟨1, ![1]⟩ 32 99999#32))))) y = 1#1 := by
    intro y
    show IntOp.andi (IntOp.cmpi .sge (broadcastInDim ⟨2, ![n, 1]⟩ ![0] b1 q y) 0#32)
      (IntOp.cmpi .sle (broadcastInDim ⟨2, ![n, 1]⟩ ![0] b1 q y) 99999#32) = 1#1
    rw [column_apply, row_nonneg (hq _), row_le_last (hq _)]; rfl
  show Scalar.select (Host.reduce IntOp.andi _ (constantI ⟨0, ![]⟩ 1 1#1) hr hu _) _ _ = _
  rw [Host.reduce_andi_one _ _ hr hu _ rfl hall]
  show Host.gather (rowsDims n wf) x (broadcastInDim ⟨2, ![n, 1]⟩ ![0] b1 q) (ix2 r c) = _
  rw [gather_rows_apply]
  refine congrArg x (congrArg (fun k => ix2 k c) (Fin.ext ?_))
  have h := hq (ix1 r)
  show min (broadcastInDim ⟨2, ![n, 1]⟩ ![0] b1 q (ix2 r (0 : Fin 1))).toInt.toNat (100000 - 1) = (rowAt (q (ix1 r))).val
  rw [show broadcastInDim ⟨2, ![n, 1]⟩ ![0] b1 q (ix2 r (0 : Fin 1)) = q (ix1 r) from column_apply q b1 _, rowAt_val h, toInt_of_row h, Int.toNat_natCast]; omega

end Take

end Cert.Proof.Taken
-- ==== Proof.Claims.lean ====
/-
  The claims, from the two runs of the program and the reference's run.

  `rows_of_pre` reads the precondition: every number of the two lists is a row of its table. The frames are the runs with
  the postcondition weakened. `reference_value` says that what the reference computes is the inner products of the rows
  the lists name; `scores_apply` says the same of the region's result, so the two agree at the ideal values.
-/
module

public import proofs.«01_k».proof.Defs
public import proofs.«01_k».proof.Proof.KernelLaunch
public import proofs.«01_k».proof.Proof.KernelIdealLaunch
public import proofs.«01_k».proof.Proof.Taken
public import proofs.«01_k».proof.Proof.Gen.ReferenceIdeal
public import proofs.«01_k».proof.Proof.Gen.ReferenceIdeal.Run
public import proofs.«01_k».proof.Proof.Gen.Pre_in_range
public import Idealize.ShloMosaic.Lib.Quiescent
public import Idealize.ShloMosaic.Lib.MatmulPlain
public import Idealize.ShloMosaic.Lib.StackMember
public import Idealize.ShloMosaic.Lib.ValueLayout

@[expose] public section

noncomputable section

namespace Cert.Proof.Claims

open Idealize.ShloMosaic hiding ix1 ix2 eq_ix2
open Idealize.ShloMosaic.TcCoe Idealize.SL.Sem
open Cert.Proof.Streams (rowAt)
open scoped BigOperators

/-! ## The precondition -/

section Pre
variable {F : FTy → Type} [FloatOps F]

/-- The precondition holds only of lists whose every number is a row of the table. -/
theorem rows_of_pre (a0 q : IVec Cert.Pre_in_range.S1024 32) (i : IVec Cert.Pre_in_range.S16384 32)
    (ut it : FVec F Cert.Pre_in_range.S100000x128 .f32) (h : Cert.Pre_in_range.fn a0 q i ut it = fun _ => 1#1) :
    (∀ j, (q j).toNat < 100000) ∧ ∀ j, (i j).toNat < 100000 := by
  have : Subsingleton Cert.Pre_in_range.S_.Idx := ⟨fun a b => funext fun k => k.elim0⟩
  have e := congrFun h (fun k => k.elim0)
  obtain ⟨e, e4⟩ := IntOp.andi_eq_one.1 e
  obtain ⟨e, e3⟩ := IntOp.andi_eq_one.1 e
  obtain ⟨e1, e2⟩ := IntOp.andi_eq_one.1 e
  exact ⟨fun j => Taken.row_of_cmp (Host.reduce_andi_all _ _ _ _ _ e1 j) (Host.reduce_andi_all _ _ _ _ _ e2 j),
    fun j => Taken.row_of_cmp (Host.reduce_andi_all _ _ _ _ _ e3 j) (Host.reduce_andi_all _ _ _ _ _ e4 j)⟩

end Pre

theorem ok_of_pre (m : (ℓ : Loc Cert.Kernel.nD Cert.Kernel.τ Cert.Kernel.sig) → Buf (Elt Bits) ℓ) (h : Cert.Pre_Kernel m) :
    KernelRun.PreOK (F := Bits) m :=
  ⟨fun d => (rows_of_pre _ _ _ _ _ (h d)).1, fun d => (rows_of_pre _ _ _ _ _ (h d)).2⟩

theorem ok_of_pre_ideal (m : (ℓ : Loc Cert.KernelIdeal.nD Cert.KernelIdeal.τ Cert.KernelIdeal.sig) → Buf (Elt Ideal) ℓ)
    (h : Cert.Pre_KernelIdeal m) : KernelIdealRun.PreOK (F := Ideal) m :=
  ⟨fun d => (rows_of_pre _ _ _ _ _ (h d)).1, fun d => (rows_of_pre _ _ _ _ _ (h d)).2⟩

/-! ## The frames -/

/-- The program leaves its arguments as they were and every semaphore at zero. -/
theorem frame_kernel : Cert.quiescent_Kernel := fun m ρ hpre =>
  (θ_run Cert.Kernel.defs _ _).mono (fun _ h => ⟨fun c => (h.1 c).2, h.2⟩) (KernelRun.run_main (F := Bits) m ρ (ok_of_pre m hpre))

/-- So does the program read at the ideal values. -/
theorem frame_kernelIdeal : Cert.quiescent_KernelIdeal := fun m ρ hpre =>
  (θ_run Cert.KernelIdeal.defs _ _).mono (fun _ h => ⟨fun c => (h.1 c).2, h.2⟩)
    (KernelIdealRun.run_main (F := Ideal) m ρ (ok_of_pre_ideal m hpre))

/-- The reference leaves its arguments as they were, and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition, which it does not need. -/
theorem frame_reference_pre : Cert.quiescent_ReferenceIdeal_pre_in_range := fun m ρ _ => frame_reference m ρ trivial

/-! ## The value -/

open ValueIdx

/-- The region's result at the ideal values: entry `(r, c)` is the inner product of row `r` of the one array and row `c`
    of the other. -/
theorem scores_apply (u : Vec Ideal Cert.KernelIdeal.S1024x128 .f32) (v : Vec Ideal Cert.KernelIdeal.S16384x128 .f32)
    (r : Fin 1024) (c : Fin 16384) :
    KernelIdealRun.scores u v (ix2 r c) = ∑ k : Fin 128, u (ix2 r k) * v (ix2 c k) := by
  show FloatOps.matmul (DotDims.transposedRhs 1024 128 2048) none u (KernelIdealRun.rowsOf v ⟨c.val / 2048, by omega⟩)
    (constant Cert.KernelIdeal.S1024x2048 .f32 0x00000000#32) (ix2 r ⟨c.val % 2048, by omega⟩) = _
  rw [Ideal.matmul_transposedRhs_apply]
  show Ideal.ofBits .f32 0x00000000#32 + _ = _
  rw [Ideal.ofBits_zero_f32, zero_add]
  refine Finset.sum_congr rfl fun k _ => congrArg (u (ix2 r k) * ·) ?_
  refine congrArg v (congrArg (fun a => ix2 a k) (Fin.ext ?_))
  show 2048 * (c.val / 2048) + c.val % 2048 = c.val
  omega

open Cert.ReferenceIdeal Cert.ReferenceIdeal.Gen in
/-- The reference's term, of lists of rows: entry `(r, c)` is the inner product of the rows that the lists name. -/
theorem reference_value (q : IVec S1024 32) (i : IVec S16384 32) (ut it : FVec Ideal S100000x128 .f32)
    (hq : ∀ j, (q j).toNat < 100000) (hi : ∀ j, (i j).toNat < 100000) (u : FVec Ideal S1024x128 .f32) (v : FVec Ideal S16384x128 .f32)
    (hu : ∀ r c, u (ix2 r c) = ut (ix2 (rowAt (q (ix1 r))) c)) (hv : ∀ r c, v (ix2 r c) = it (ix2 (rowAt (i (ix1 r))) c))
    (r : Fin 1024) (c : Fin 16384) :
    Host.dotGeneral dot_S1024x128_S128x16384_S1024x16384_1_0_0_1_n_n none u (transpose S128x16384 [1, 0] v transposes_S16384x128_S128x16384_1_0) (ix2 r c)
      = ∑ k : Fin 128, ut (ix2 (rowAt (q (ix1 r))) k) * it (ix2 (rowAt (i (ix1 c))) k) := by
  refine (StackMember.dotGeneral_plain_apply (m := 1024) (k := 128) (n := 16384) none u _ r c).trans ?_
  refine Finset.sum_congr rfl fun k _ => ?_
  rw [hu, transpose_ix2_apply, hv]

open Cert.ReferenceIdeal Cert.ReferenceIdeal.Gen in
/-- The item rows as the reference's term takes them. -/
theorem taken_items (i : IVec S16384 32) (hi : ∀ j, (i j).toNat < 100000) (it : FVec Ideal S100000x128 .f32) (r : Fin 16384) (c : Fin 128) :
    (select (broadcastInDim S16384x128 ![0] bcast_S16384_S16384x128_0 (Host.reduce IntOp.andi (andi (cmpi
      .sge (broadcastInDim S16384x1 ![0] bcast_S16384_S16384x1_0 (select (cmpi .slt i (broadcastInDim
      S16384 ![] bcast_S_S16384 (constantI S_ 32 0#32))) (addi i (broadcastInDim S16384 ![]
      bcast_S_S16384 (constantI S_ 32 100000#32))) i)) (broadcastInDim S16384x1 ![] bcast_S_S16384x1
      (constantI S_ 32 0#32))) (cmpi .sle (broadcastInDim S16384x1 ![0] bcast_S16384_S16384x1_0 (select
      (cmpi .slt i (broadcastInDim S16384 ![] bcast_S_S16384 (constantI S_ 32 0#32))) (addi i
      (broadcastInDim S16384 ![] bcast_S_S16384 (constantI S_ 32 100000#32))) i)) (broadcastInDim
      S16384x1 ![0, 1] bcast_S1x1_S16384x1_0_1 (broadcastInDim S1x1 ![1] bcast_S1_S1x1_1 (constantI S1
      32 99999#32))))) (constantI S_ 1 1#1) reducesTo_S16384x1_S16384_d1 h_S_)) (Host.gather
      gather_S100000x128_S16384x1_S16384x128_1_0_n_n_0_1_1128 it (broadcastInDim S16384x1 ![0]
      bcast_S16384_S16384x1_0 (select (cmpi .slt i (broadcastInDim S16384 ![] bcast_S_S16384 (constantI
      S_ 32 0#32))) (addi i (broadcastInDim S16384 ![] bcast_S_S16384 (constantI S_ 32 100000#32))) i)))
      (broadcastInDim S16384x128 ![] bcast_S_S16384x128 (constant S_ .f32 0x7FC00000#32))) (ix2 r c)
      = it (ix2 (rowAt (i (ix1 r))) c) :=
  Taken.taken_apply (n := 16384) i hi it _ _ _ _ _ _ _ _ _ _ r c

/-- The two programs end with equal results, from memories that agree on the arguments. -/
theorem algebraic : Cert.algebraic_KernelIdeal_ReferenceIdeal := by
  intro m ρ m' ρ' hpre hagree
  have hok := ok_of_pre_ideal m hpre
  refine ⟨fun c => KernelIdealRun.scores (KernelIdealRun.uVal m c) (KernelIdealRun.iVal m c),
    (θ_run Cert.KernelIdeal.defs _ _).mono (fun _ h => h.1) (KernelIdealRun.run_main (F := Ideal) m ρ hok),
    (θ_run Cert.ReferenceIdeal.defs _ _).mono (fun _ h c => ⟨(h c).1.trans ?_, (h c).2⟩) (Cert.ReferenceIdeal.Value.run (F := Ideal) m' ρ')⟩
  obtain ⟨-, h1, h2, h3, h4⟩ := hagree c
  rw [h1, h2, h3, h4]
  funext x
  obtain ⟨r, s, rfl⟩ : ∃ (r : Fin 1024) (s : Fin 16384), x = ix2 r s := ⟨x 0, x 1, eq_ix2 x⟩
  refine Eq.trans ?_ (scores_apply _ _ r s).symm
  refine (reference_value _ _ _ _ (hok.1 c) (hok.2 c) _ _ ?_ ?_ r s).trans rfl
  · exact fun r k => Taken.taken_apply (n := 1024) _ (hok.1 c) _ _ _ _ _ _ _ _ _ _ _ r k
  · exact fun r k => taken_items _ (hok.2 c) _ r k

end Cert.Proof.Claims
-- ==== Proof.lean ====
/-
  The proof of `Cert.Claim`: the frames of the program, of its reading at the ideal values and of the reference, that the
  ideal reading rewrites nothing, and that the program and the reference end with equal results (Proof/Claims.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  Claims.frame_kernel, Claims.frame_kernelIdeal, Claims.frame_reference, Claims.frame_reference_pre, trivial, Claims.algebraic⟩

end Cert.Proof

end
